-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x4096 : Shape := ⟨2, ![512, 4096]⟩
abbrev S2x128x4x64 : Shape := ⟨4, ![2, 128, 4, 64]⟩
abbrev S4096x512 : Shape := ⟨2, ![4096, 512]⟩
abbrev S_ : Shape := ⟨0, ![]⟩
abbrev S512x256 : Shape := ⟨2, ![512, 256]⟩
abbrev S256x512 : Shape := ⟨2, ![256, 512]⟩
abbrev S4x2x128x512 : Shape := ⟨4, ![4, 2, 128, 512]⟩
abbrev S4x2 : Shape := ⟨2, ![4, 2]⟩
abbrev S256x256 : Shape := ⟨2, ![256, 256]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S1x128x512 : Shape := ⟨3, ![1, 128, 512]⟩
abbrev S1x1 : Shape := ⟨2, ![1, 1]⟩
abbrev S1x1x128x512 : Shape := ⟨4, ![1, 1, 128, 512]⟩

abbrev nBuf : Space → Nat
  | .hbm => 30
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x4x64, .bf16⟩
  | .hbm, ⟨3, _⟩ => ⟨S2x128x4x64, .bf16⟩
  | .hbm, ⟨4, _⟩ => ⟨S4096x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S4x2x128x512, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v182 : BitVec 32 := Scalar.xori v2 c1_i32_121
  let c1_i32_130 : BitVec 32 := 1#32
  let v184 : BitVec 32 := Scalar.muli v182 c1_i32_130
  let v185 : BitVec 32 := Scalar.addi c0_i32_131 v184
  v185.toNat
def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_122 : BitVec 32 := 8#32
  let v183 : BitVec 32 := Scalar.xori v2 c8_i32_122
  let c1_i32_143 : BitVec 32 := 1#32
  let v194 : BitVec 32 := Scalar.muli v183 c1_i32_143
  let v195 : BitVec 32 := Scalar.addi c0_i32_144 v194
  v195.toNat
def k0_dev7 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_219 : BitVec 32 := 2#32
  let v248 : BitVec 32 := Scalar.xori v2 c2_i32_219
  let c1_i32_228 : BitVec 32 := 1#32
  let v250 : BitVec 32 := Scalar.muli v248 c1_i32_228
  let v251 : BitVec 32 := Scalar.addi c0_i32_229 v250
  v251.toNat
def k0_dev8 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_220 : BitVec 32 := 4#32
  let v249 : BitVec 32 := Scalar.xori v2 c4_i32_220
  let c1_i32_241 : BitVec 32 := 1#32
  let v260 : BitVec 32 := Scalar.muli v249 c1_i32_241
  let v261 : BitVec 32 := Scalar.addi c0_i32_242 v260
  v261.toNat
def k0_dev9 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_317 : BitVec 32 := 4#32
  let v314 : BitVec 32 := Scalar.xori v2 c4_i32_317
  let c1_i32_326 : BitVec 32 := 1#32
  let v316 : BitVec 32 := Scalar.muli v314 c1_i32_326
  let v317 : BitVec 32 := Scalar.addi c0_i32_327 v316
  v317.toNat
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_318 : BitVec 32 := 2#32
  let v315 : BitVec 32 := Scalar.xori v2 c2_i32_318
  let c1_i32_339 : BitVec 32 := 1#32
  let v326 : BitVec 32 := Scalar.muli v315 c1_i32_339
  let v327 : BitVec 32 := Scalar.addi c0_i32_340 v326
  v327.toNat
def k0_dev11 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_415 : BitVec 32 := 8#32
  let v380 : BitVec 32 := Scalar.xori v2 c8_i32_415
  let c1_i32_423 : BitVec 32 := 1#32
  let v382 : BitVec 32 := Scalar.muli v380 c1_i32_423
  let v383 : BitVec 32 := Scalar.addi c0_i32_424 v382
  v383.toNat
def k0_dev12 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_416 : BitVec 32 := 1#32
  let v381 : BitVec 32 := Scalar.xori v2 c1_i32_416
  let c1_i32_436 : BitVec 32 := 1#32
  let v392 : BitVec 32 := Scalar.muli v381 c1_i32_436
  let v393 : BitVec 32 := Scalar.addi c0_i32_437 v392
  v393.toNat
def k0_dev13 (d0 : Dev nD) : Nat :=
  let c0_i32_515_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_512_r0 : BitVec 32 := 1#32
  let v447_r0 : BitVec 32 := Scalar.xori v2 c1_i32_512_r0
  let c1_i32_514_r0 : BitVec 32 := 1#32
  let v448_r0 : BitVec 32 := Scalar.muli v447_r0 c1_i32_514_r0
  let v449_r0 : BitVec 32 := Scalar.addi c0_i32_515_r0 v448_r0
  v449_r0.toNat
def k0_dev14 (d0 : Dev nD) : Nat :=
  let c0_i32_519_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_516_r0 : BitVec 32 := 2#32
  let v450_r0 : BitVec 32 := Scalar.xori v2 c2_i32_516_r0
  let c1_i32_518_r0 : BitVec 32 := 1#32
  let v451_r0 : BitVec 32 := Scalar.muli v450_r0 c1_i32_518_r0
  let v452_r0 : BitVec 32 := Scalar.addi c0_i32_519_r0 v451_r0
  v452_r0.toNat
def k0_dev15 (d0 : Dev nD) : Nat :=
  let c0_i32_523_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_520_r0 : BitVec 32 := 4#32
  let v453_r0 : BitVec 32 := Scalar.xori v2 c4_i32_520_r0
  let c1_i32_522_r0 : BitVec 32 := 1#32
  let v454_r0 : BitVec 32 := Scalar.muli v453_r0 c1_i32_522_r0
  let v455_r0 : BitVec 32 := Scalar.addi c0_i32_523_r0 v454_r0
  v455_r0.toNat
def k0_dev16 (d0 : Dev nD) : Nat :=
  let c0_i32_527_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_524_r0 : BitVec 32 := 8#32
  let v456_r0 : BitVec 32 := Scalar.xori v2 c8_i32_524_r0
  let c1_i32_526_r0 : BitVec 32 := 1#32
  let v457_r0 : BitVec 32 := Scalar.muli v456_r0 c1_i32_526_r0
  let v458_r0 : BitVec 32 := Scalar.addi c0_i32_527_r0 v457_r0
  v458_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 60
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x128x4096, .f32⟩
  | .hbm, ⟨6, _⟩ => ⟨S2x128x4096, .bf16⟩
  | .hbm, ⟨7, _⟩ => ⟨S2x128x64x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S2x64x128x128, .f32⟩
  | .hbm, ⟨20, _⟩ => ⟨S2x64x128x128, .bf16⟩
  | .hbm, ⟨21, _⟩ => ⟨S2x64x128x128, .f32⟩
  | .hbm, ⟨22, _⟩ => ⟨S_, .f32⟩
  | .hbm, ⟨23, _⟩ => ⟨S2x64x128x128, .f32⟩
  | .hbm, ⟨24, _⟩ => ⟨S2x64x128x128, .f32⟩
  | .hbm, ⟨25, _⟩ => ⟨S1x1x128x128, .i1⟩
  | .hbm, ⟨26, _⟩ => ⟨S_, .f32⟩
  | .hbm, ⟨27, _⟩ => ⟨S_, .f32⟩
  | .hbm, ⟨28, _⟩ => ⟨S2x64x128x128, .i1⟩
  | .hbm, ⟨29, _⟩ => ⟨S2x64x128x128, .f32⟩
  | .hbm, ⟨30, _⟩ => ⟨S2x64x128x128, .f32⟩
  | .hbm, ⟨31, _⟩ => ⟨S_, .f32⟩
  | .hbm, ⟨32, _⟩ => ⟨S2x64x128, .f32⟩
  | .hbm, ⟨33, _⟩ => ⟨S2x64x128x1, .f32⟩
  | .hbm, ⟨34, _⟩ => ⟨S2x64x128x128, .f32⟩
  | .hbm, ⟨35, _⟩ => ⟨S2x64x128x128, .f32⟩
  | .hbm, ⟨36, _⟩ => ⟨S2x64x128x128, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x64x128, .f32⟩
  | .hbm, ⟨42, _⟩ => ⟨S2x64x128x1, .f32⟩
  | .hbm, ⟨43, _⟩ => ⟨S_, .f32⟩
  | .hbm, ⟨44, _⟩ => ⟨S_, .f32⟩
  | .hbm, ⟨45, _⟩ => ⟨S2x64x128x1, .i1⟩
  | .hbm, ⟨46, _⟩ => ⟨S2x64x128x1, .f32⟩
  | .hbm, ⟨47, _⟩ => ⟨S2x64x128x1, .f32⟩
  | .hbm, ⟨48, _⟩ => ⟨S2x64x128x128, .f32⟩
  | .hbm, ⟨49, _⟩ => ⟨S2x64x128x128, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x64x128x128, .i1⟩
  | .hbm, ⟨54, _⟩ => ⟨S2x64x128x128, .f32⟩
  | .hbm, ⟨55, _⟩ => ⟨S2x64x128x128, .f32⟩
  | .hbm, ⟨56, _⟩ => ⟨S2x64x64x128, .f32⟩
  | .hbm, ⟨57, _⟩ => ⟨S2x128x64x64, .f32⟩
  | .hbm, ⟨58, _⟩ => ⟨S2x128x4096, .f32⟩
  | .hbm, ⟨59, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Protocol.lean ====
/-
  The communication protocol of the kernel, stated once for a symbolic device.

  Sixteen devices form a four-dimensional cube. Each device first meets its four neighbours at the barrier semaphore,
  then runs four rounds; in a round the two halves of the accumulator travel along two different dimensions, half 0 along
  dimension r and half 1 along dimension 3 - r, into a landing slot of its own. At the end the neighbours meet again.
-/
module

public import proofs.«01_k».proof.Proof.Gen.KernelIdeal
public import proofs.«01_k».proof.Proof.Gen.KernelIdeal.Launch
public import Idealize.ShloMosaic.Lib.Rounds
public import Idealize.ShloMosaic.Lib.Rounds.Family
public import Idealize.ShloMosaic.Lib.Tactic
public import Idealize.ShloMosaic.Lib.Pipeline.Kit
public import Idealize.ShloMosaic.Lib.Pipeline.Value
public import Idealize.ShloMosaic.Harness.Basic

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Neighbours -/

/-- The neighbour of device `c` along dimension `k` of the cube: bit `k` of its number flipped. -/
def par (k : Fin 4) (c : Dev nD) : Dev nD := ⟨(c.val ^^^ (1 <<< k.val)) % 16, Nat.mod_lt _ (by decide)⟩

/-- Two steps along one dimension lead back. -/
theorem par_par (k : Fin 4) (c : Dev nD) : par k (par k c) = c := by revert k c; decide

/-- A step along one dimension, as a permutation of the devices. -/
def flip (k : Fin 4) : Dev nD ≃ Dev nD := ⟨par k, par k, par_par k, par_par k⟩

/-- The dimension along which transfer `j` travels: transfer `2 r` is half 0 of round `r`, transfer `2 r + 1` half 1. -/
def dim : Fin 8 → Fin 4 := ![0, 3, 1, 2, 2, 1, 3, 0]

/-- The half of the accumulator that transfer `j` carries. -/
def half : Fin 8 → Fin 2 := ![0, 1, 0, 1, 0, 1, 0, 1]

/-- The round transfer `j` belongs to. -/
def rnd : Fin 8 → ℕ := ![0, 0, 1, 1, 2, 2, 3, 3]

theorem dev1_eq (c : Dev nD) : (⟨k0_dev1 c, k0_dev1_lt c⟩ : Dev nD) = par 0 c := by revert c; decide
theorem dev2_eq (c : Dev nD) : (⟨k0_dev2 c, k0_dev2_lt c⟩ : Dev nD) = par 1 c := by revert c; decide
theorem dev3_eq (c : Dev nD) : (⟨k0_dev3 c, k0_dev3_lt c⟩ : Dev nD) = par 2 c := by revert c; decide
theorem dev4_eq (c : Dev nD) : (⟨k0_dev4 c, k0_dev4_lt c⟩ : Dev nD) = par 3 c := by revert c; decide
theorem dev5_eq (c : Dev nD) : (⟨k0_dev5 c, k0_dev5_lt c⟩ : Dev nD) = par (dim 0) c := by revert c; decide
theorem dev6_eq (c : Dev nD) : (⟨k0_dev6 c, k0_dev6_lt c⟩ : Dev nD) = par (dim 1) c := by revert c; decide
theorem dev7_eq (c : Dev nD) : (⟨k0_dev7 c, k0_dev7_lt c⟩ : Dev nD) = par (dim 2) c := by revert c; decide
theorem dev8_eq (c : Dev nD) : (⟨k0_dev8 c, k0_dev8_lt c⟩ : Dev nD) = par (dim 3) c := by revert c; decide
theorem dev9_eq (c : Dev nD) : (⟨k0_dev9 c, k0_dev9_lt c⟩ : Dev nD) = par (dim 4) c := by revert c; decide
theorem dev10_eq (c : Dev nD) : (⟨k0_dev10 c, k0_dev10_lt c⟩ : Dev nD) = par (dim 5) c := by revert c; decide
theorem dev11_eq (c : Dev nD) : (⟨k0_dev11 c, k0_dev11_lt c⟩ : Dev nD) = par (dim 6) c := by revert c; decide
theorem dev12_eq (c : Dev nD) : (⟨k0_dev12 c, k0_dev12_lt c⟩ : Dev nD) = par (dim 7) c := by revert c; decide
theorem dev13_eq (c : Dev nD) : (⟨k0_dev13 c, k0_dev13_lt c⟩ : Dev nD) = par 0 c := by revert c; decide
theorem dev14_eq (c : Dev nD) : (⟨k0_dev14 c, k0_dev14_lt c⟩ : Dev nD) = par 1 c := by revert c; decide
theorem dev15_eq (c : Dev nD) : (⟨k0_dev15 c, k0_dev15_lt c⟩ : Dev nD) = par 2 c := by revert c; decide
theorem dev16_eq (c : Dev nD) : (⟨k0_dev16 c, k0_dev16_lt c⟩ : Dev nD) = par 3 c := by revert c; decide

/-! ## Memory: the accumulator's halves and the landing slots -/

/-- The accumulator (the result's staging buffer), whole. -/
abbrev accM : Memref sig .tc .vmem S2x128x512 .f32 := Memref.whole cc0_stg5_0
/-- The landing buffer, whole. -/
abbrev landM : Memref sig .tc .vmem S4x2x128x512 .f32 := Memref.whole cc0_scratch0

/-- The rectangle of one half of the accumulator. -/
def outR : Fin 2 → Rect S2x128x512 := fun
  | 0 => Rect.unit (s := S2x128x512) ![0, 0, 0] S1x128x512.size inb_S2x128x512_S1x128x512_0_0_0
  | 1 => Rect.unit (s := S2x128x512) ![1, 0, 0] S1x128x512.size inb_S2x128x512_S1x128x512_1_0_0

/-- The rectangle of one landing slot. -/
def slotR : Fin 8 → Rect S4x2x128x512 := fun
  | 0 => Rect.unit (s := S4x2x128x512) ![0, 0, 0, 0] S1x1x128x512.size inb_S4x2x128x512_S1x1x128x512_0_0_0_0
  | 1 => Rect.unit (s := S4x2x128x512) ![0, 1, 0, 0] S1x1x128x512.size inb_S4x2x128x512_S1x1x128x512_0_1_0_0
  | 2 => Rect.unit (s := S4x2x128x512) ![1, 0, 0, 0] S1x1x128x512.size inb_S4x2x128x512_S1x1x128x512_1_0_0_0
  | 3 => Rect.unit (s := S4x2x128x512) ![1, 1, 0, 0] S1x1x128x512.size inb_S4x2x128x512_S1x1x128x512_1_1_0_0
  | 4 => Rect.unit (s := S4x2x128x512) ![2, 0, 0, 0] S1x1x128x512.size inb_S4x2x128x512_S1x1x128x512_2_0_0_0
  | 5 => Rect.unit (s := S4x2x128x512) ![2, 1, 0, 0] S1x1x128x512.size inb_S4x2x128x512_S1x1x128x512_2_1_0_0
  | 6 => Rect.unit (s := S4x2x128x512) ![3, 0, 0, 0] S1x1x128x512.size inb_S4x2x128x512_S1x1x128x512_3_0_0_0
  | 7 => Rect.unit (s := S4x2x128x512) ![3, 1, 0, 0] S1x1x128x512.size inb_S4x2x128x512_S1x1x128x512_3_1_0_0

/-- One half of the accumulator, as the copies see it: a matrix of 128 rows and 512 columns. -/
def outM : Fin 2 → Memref sig .tc .vmem S128x512 .f32 := fun
  | 0 => (accM.slice (Rect.unit (s := S2x128x512) ![0, 0, 0] S1x128x512.size inb_S2x128x512_S1x128x512_0_0_0) (fun _ => rfl)).squeeze S128x512 squeezes_S1x128x512_S128x512
  | 1 => (accM.slice (Rect.unit (s := S2x128x512) ![1, 0, 0] S1x128x512.size inb_S2x128x512_S1x128x512_1_0_0) (fun _ => rfl)).squeeze S128x512 squeezes_S1x128x512_S128x512

/-- One landing slot, as the copies see it. -/
def slotM : Fin 8 → Memref sig .tc .vmem S128x512 .f32 := fun
  | 0 => (landM.slice (Rect.unit (s := S4x2x128x512) ![0, 0, 0, 0] S1x1x128x512.size inb_S4x2x128x512_S1x1x128x512_0_0_0_0) (fun _ => rfl)).squeeze S128x512 squeezes_S1x1x128x512_S128x512
  | 1 => (landM.slice (Rect.unit (s := S4x2x128x512) ![0, 1, 0, 0] S1x1x128x512.size inb_S4x2x128x512_S1x1x128x512_0_1_0_0) (fun _ => rfl)).squeeze S128x512 squeezes_S1x1x128x512_S128x512
  | 2 => (landM.slice (Rect.unit (s := S4x2x128x512) ![1, 0, 0, 0] S1x1x128x512.size inb_S4x2x128x512_S1x1x128x512_1_0_0_0) (fun _ => rfl)).squeeze S128x512 squeezes_S1x1x128x512_S128x512
  | 3 => (landM.slice (Rect.unit (s := S4x2x128x512) ![1, 1, 0, 0] S1x1x128x512.size inb_S4x2x128x512_S1x1x128x512_1_1_0_0) (fun _ => rfl)).squeeze S128x512 squeezes_S1x1x128x512_S128x512
  | 4 => (landM.slice (Rect.unit (s := S4x2x128x512) ![2, 0, 0, 0] S1x1x128x512.size inb_S4x2x128x512_S1x1x128x512_2_0_0_0) (fun _ => rfl)).squeeze S128x512 squeezes_S1x1x128x512_S128x512
  | 5 => (landM.slice (Rect.unit (s := S4x2x128x512) ![2, 1, 0, 0] S1x1x128x512.size inb_S4x2x128x512_S1x1x128x512_2_1_0_0) (fun _ => rfl)).squeeze S128x512 squeezes_S1x1x128x512_S128x512
  | 6 => (landM.slice (Rect.unit (s := S4x2x128x512) ![3, 0, 0, 0] S1x1x128x512.size inb_S4x2x128x512_S1x1x128x512_3_0_0_0) (fun _ => rfl)).squeeze S128x512 squeezes_S1x1x128x512_S128x512
  | 7 => (landM.slice (Rect.unit (s := S4x2x128x512) ![3, 1, 0, 0] S1x1x128x512.size inb_S4x2x128x512_S1x1x128x512_3_1_0_0) (fun _ => rfl)).squeeze S128x512 squeezes_S1x1x128x512_S128x512

/-- What one copy of a half counts on a DMA semaphore. -/
def N : ℕ := (outM 0).view.dmaCredit
theorem N_pos : 0 < N := View.dmaCredit_pos _ (by decide)
theorem slot_credit (j : Fin 8) : (slotM j).view.dmaCredit = N := by
  fin_cases j <;> rfl
theorem out_credit (h : Fin 2) : (outM h).view.dmaCredit = N := by
  fin_cases h <;> rfl

/-! ## Semaphores and cells -/

/-- The semaphore of the closing meeting. -/
def exitS : Sem sig := 1
/-- The semaphore transfer `j` counts on at its source. -/
def sendS (j : Fin 8) : DmaSem sig := ⟨6 + j.val, by have := j.isLt; show _ < 22; omega⟩
/-- The semaphore transfer `j` counts on at its destination. -/
def recvS (j : Fin 8) : DmaSem sig := ⟨14 + j.val, by have := j.isLt; show _ < 22; omega⟩

/-- What a semaphore of a device is for. -/
inductive Role
  | bar | exit | send (j : Fin 8) | recv (j : Fin 8) | other
  deriving DecidableEq

/-- The use of each semaphore. -/
def role : SemLoc sig → Role
  | .reg s => if s.val = 0 then .bar else .exit
  | .dma s => if h : 6 ≤ s.val ∧ s.val < 14 then .send ⟨s.val - 6, by omega⟩
      else if h : 14 ≤ s.val ∧ s.val < 22 then .recv ⟨s.val - 14, by omega⟩ else .other

theorem role_bar : role (.reg barrier0) = .bar := by decide
theorem role_exit : role (.reg exitS) = .exit := by decide
theorem role_send (j : Fin 8) : role (.dma (sendS j)) = .send j := by revert j; decide
theorem role_recv (j : Fin 8) : role (.dma (recvS j)) = .recv j := by revert j; decide

abbrev barCell (c : Dev nD) : GSem nD τ sig := ((c : Thread nD τ), .reg barrier0)
abbrev exitCell (c : Dev nD) : GSem nD τ sig := ((c : Thread nD τ), .reg exitS)
abbrev sendCell (c : Dev nD) (j : Fin 8) : GSem nD τ sig := ((c : Thread nD τ), .dma (sendS j))
abbrev recvCell (c : Dev nD) (j : Fin 8) : GSem nD τ sig := ((c : Thread nD τ), .dma (recvS j))

/-! ## The ghost algebra -/

/-- The pipeline's rounds beside the protocol's own, whose duties are named by the dimensions of the cube. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Contents -/

/-- The accumulators of all devices before the first round: device and half to a matrix. -/
abbrev Parts (F : FTy → Type) : Type := Fin 2 → Dev nD → FVec F S128x512 .f32

/-- The dimension half `h` travels along in round `r`. -/
def dm (r : ℕ) (h : Fin 2) : Fin 4 := if h = 0 then Fin.ofNat 4 r else Fin.ofNat 4 (3 - r)

/-- Half `h` of device `c`'s accumulator after `r` rounds. -/
def acc (B : Parts F) : ℕ → Fin 2 → Dev nD → FVec F S128x512 .f32
  | 0, h, c => B h c
  | r + 1, h, c => addf (acc B r h c) (acc B r h (par (dm r h) c))

/-- What transfer `j` leaving device `c` carries. -/
def carried (B : Parts F) (j : Fin 8) (c : Dev nD) : FVec F S128x512 .f32 := acc B (rnd j) (half j) c

variable (B : Parts F)

/-! ## The schedule -/

/-- The transfer of half 0 along dimension `k`. -/
def lowJ : Fin 4 → Fin 8 := ![0, 2, 4, 6]
/-- The transfer of half 1 along dimension `k`. -/
def highJ : Fin 4 → Fin 8 := ![7, 5, 3, 1]

/-- Device `c` owns the landing slot of transfer `j`, at some contents. -/
def slotAny (c : Dev nD) (j : Fin 8) : sProp 𝕄 := iprop(∃ v, owns (c : Thread nD τ) (slotM j) fullShare v)

/-- What device `q` hands to its neighbour along dimension `k` at the opening meeting: the two landing slots that neighbour
    will write, the news that their counters are open, and that the counter of the closing meeting is open. -/
def barPay (q : Dev nD) (k : Fin 4) : sProp 𝕄 :=
  iprop(slotAny (F := F) q (lowJ k) ∗ slotAny (F := F) q (highJ k)
    ∗ reached ER (recvCell q (lowJ k)) 0 ∗ reached ER (recvCell q (highJ k)) 0 ∗ reached ER (exitCell q) 0)
/-- What the source counter of transfer `j` returns: the half that was read. -/
def sendPay (c : Dev nD) (j : Fin 8) : sProp 𝕄 := owns (c : Thread nD τ) (outM (half j)) fullShare (carried B j c)
/-- What the destination counter of transfer `j` delivers: the landing slot at what the neighbour sent. -/
def recvPay (c : Dev nD) (j : Fin 8) : sProp 𝕄 := owns (c : Thread nD τ) (slotM j) fullShare (carried B j (par (dim j) c))

/-- The duties of a cell's only round: one per neighbour at the two meetings, one for a copy. -/
def roleDuties : Role → Finset (Fin 4)
  | .bar => Finset.univ
  | .exit => Finset.univ
  | .send _ => {0}
  | .recv _ => {0}
  | .other => ∅
/-- What one duty counts. -/
def roleAmount : Role → ℕ
  | .bar => 1
  | .exit => 1
  | _ => N
/-- What one duty hands over. -/
def rolePay (c : Dev nD) (k : Fin 4) : Role → sProp 𝕄
  | .bar => barPay (par k c) k
  | .send j => sendPay B c j
  | .recv j => recvPay B c j
  | _ => iprop(emp)

theorem roleAmount_pos (ro : Role) : 0 < roleAmount ro := by
  cases ro <;> first | exact Nat.one_pos | exact N_pos

/-- Every semaphore of the protocol goes through one round. -/
def rd : Rounds.Schedule (GSem nD τ sig) (Fin 4) 𝕄 where
  duties g r := if r = 0 ∧ g.1.2 = .tc then roleDuties (role g.2) else ∅
  unitless _ := False
  amount g _ _ := roleAmount (role g.2)
  payload g _ k := rolePay B g.1.1 k (role g.2)
  amount_pos g _ _ _ := roleAmount_pos _

instance payload_storable (g : GSem nD τ sig) (r : ℕ) (k : Fin 4) :
    BI.Storable (upEmb : UEmb _ 𝕄) ((rd (F := F) B).payload g r k) := by
  show BI.Storable upEmb (rolePay B g.1.1 k (role g.2))
  generalize role g.2 = ro
  cases ro <;> unfold rolePay <;> (try unfold barPay sendPay recvPay slotAny) <;> infer_instance

section Tables

variable (c : Dev nD) (j : Fin 8) (k : Fin 4)

theorem duties_bar : (rd B).duties (barCell c) 0 = Finset.univ := by
  show (if (0 : ℕ) = 0 ∧ (c : Thread nD τ).2 = .tc then roleDuties (role (.reg barrier0)) else ∅) = _
  rw [if_pos ⟨rfl, rfl⟩, role_bar]; rfl
theorem duties_exit : (rd B).duties (exitCell c) 0 = Finset.univ := by
  show (if (0 : ℕ) = 0 ∧ (c : Thread nD τ).2 = .tc then roleDuties (role (.reg exitS)) else ∅) = _
  rw [if_pos ⟨rfl, rfl⟩, role_exit]; rfl
theorem duties_send : (rd B).duties (sendCell c j) 0 = {0} := by
  show (if (0 : ℕ) = 0 ∧ (c : Thread nD τ).2 = .tc then roleDuties (role (.dma (sendS j))) else ∅) = _
  rw [if_pos ⟨rfl, rfl⟩, role_send]; rfl
theorem duties_recv : (rd B).duties (recvCell c j) 0 = {0} := by
  show (if (0 : ℕ) = 0 ∧ (c : Thread nD τ).2 = .tc then roleDuties (role (.dma (recvS j))) else ∅) = _
  rw [if_pos ⟨rfl, rfl⟩, role_recv]; rfl
/-- Nothing is scheduled after the first round. -/
theorem duties_later (g : GSem nD τ sig) : ∀ r, 1 ≤ r → (rd B).duties g r = ∅ :=
  fun r hr => if_neg fun h => by omega

theorem amount_bar : (rd B).amount (barCell c) 0 k = 1 := by
  show roleAmount (role (.reg barrier0)) = _; rw [role_bar]; rfl
theorem amount_exit : (rd B).amount (exitCell c) 0 k = 1 := by
  show roleAmount (role (.reg exitS)) = _; rw [role_exit]; rfl
theorem amount_send : (rd B).amount (sendCell c j) 0 k = N := by
  show roleAmount (role (.dma (sendS j))) = _; rw [role_send]; rfl
theorem amount_recv : (rd B).amount (recvCell c j) 0 k = N := by
  show roleAmount (role (.dma (recvS j))) = _; rw [role_recv]; rfl

theorem payload_bar : (rd B).payload (barCell c) 0 k = barPay (par k c) k := by
  show rolePay B c k (role (.reg barrier0)) = _; rw [role_bar]; rfl
theorem payload_exit : (rd B).payload (exitCell c) 0 k = iprop(emp) := by
  show rolePay B c k (role (.reg exitS)) = _; rw [role_exit]; rfl
theorem payload_send : (rd B).payload (sendCell c j) 0 k = sendPay B c j := by
  show rolePay B c k (role (.dma (sendS j))) = _; rw [role_send]; rfl
theorem payload_recv : (rd B).payload (recvCell c j) 0 k = recvPay B c j := by
  show rolePay B c k (role (.dma (recvS j))) = _; rw [role_recv]; rfl

theorem expect_bar : (rd B).expect (barCell c) 0 = 4 := by
  unfold Schedule.expect Schedule.amountOf
  rw [duties_bar, Finset.sum_congr rfl fun k _ => amount_bar B c k]; rfl
theorem expect_exit : (rd B).expect (exitCell c) 0 = 4 := by
  unfold Schedule.expect Schedule.amountOf
  rw [duties_exit, Finset.sum_congr rfl fun k _ => amount_exit B c k]; rfl
theorem expect_send : (rd B).expect (sendCell c j) 0 = N := by
  unfold Schedule.expect Schedule.amountOf; rw [duties_send, Finset.sum_singleton, amount_send]
theorem expect_recv : (rd B).expect (recvCell c j) 0 = N := by
  unfold Schedule.expect Schedule.amountOf; rw [duties_recv, Finset.sum_singleton, amount_recv]

/-- Four summands written out. -/
theorem bigSep_four (Φ : Fin 4 → sProp 𝕄) : bigSep Finset.univ Φ = iprop(Φ 0 ∗ Φ 1 ∗ Φ 2 ∗ Φ 3) :=
  Idealize.SL.BI.bigSep_univ_eq_bigSepL [0, 1, 2, 3] (by decide) (by decide) Φ

/-- Eight summands written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  Idealize.SL.BI.bigSep_univ_eq_bigSepL [0, 1, 2, 3, 4, 5, 6, 7] (by decide) (by decide) Φ

/-- All that the opening meeting brings to a device: its neighbours' landing slots. -/
theorem rest_bar : bigSep ((rd B).duties (barCell c) 0 \ ∅) (fun k => (rd B).payload (barCell c) 0 k)
    = iprop(barPay (par 0 c) 0 ∗ barPay (par 1 c) 1 ∗ barPay (par 2 c) 2 ∗ barPay (par 3 c) 3) := by
  rw [Finset.sdiff_empty, duties_bar, bigSep_four]; simp only [payload_bar]
theorem rest_send : bigSep ((rd B).duties (sendCell c j) 0 \ ∅) (fun k => (rd B).payload (sendCell c j) 0 k) = sendPay B c j := by
  rw [Finset.sdiff_empty, duties_send, bigSep_singleton, payload_send]
theorem rest_recv : bigSep ((rd B).duties (recvCell c j) 0 \ ∅) (fun k => (rd B).payload (recvCell c j) 0 k) = recvPay B c j := by
  rw [Finset.sdiff_empty, duties_recv, bigSep_singleton, payload_recv]

end Tables

/-! ## What a device owes, and the levels of the cells -/

/-- The sum of a list of owed amounts. -/
def owe (l : List (GSem nD τ sig × ℕ)) : CellTallies nD τ sig Unit := (l.map fun x => tallyAt x.1 () x.2).sum

theorem owe_nil : owe [] = 0 := rfl
theorem owe_cons (x : GSem nD τ sig × ℕ) (l : List (GSem nD τ sig × ℕ)) : owe (x :: l) = owe l + tallyAt x.1 () x.2 := by
  unfold owe; rw [List.map_cons, List.sum_cons, add_comm]

/-- The units owed at the closing meeting. -/
def dueExit (c : Dev nD) : List (GSem nD τ sig × ℕ) :=
  [(exitCell (par 0 c), 1), (exitCell (par 1 c), 1), (exitCell (par 2 c), 1), (exitCell (par 3 c), 1)]
/-- The copies owed from round 3 on, and so on for the earlier rounds. -/
def due3 (c : Dev nD) : List (GSem nD τ sig × ℕ) :=
  (recvCell (par (dim 6) c) 6, N) :: (recvCell (par (dim 7) c) 7, N) :: dueExit c
def due2 (c : Dev nD) : List (GSem nD τ sig × ℕ) :=
  (recvCell (par (dim 4) c) 4, N) :: (recvCell (par (dim 5) c) 5, N) :: due3 c
def due1 (c : Dev nD) : List (GSem nD τ sig × ℕ) :=
  (recvCell (par (dim 2) c) 2, N) :: (recvCell (par (dim 3) c) 3, N) :: due2 c
def due0 (c : Dev nD) : List (GSem nD τ sig × ℕ) :=
  (recvCell (par (dim 0) c) 0, N) :: (recvCell (par (dim 1) c) 1, N) :: due1 c
/-- All a device owes at launch, in the order it pays. -/
def dues (c : Dev nD) : List (GSem nD τ sig × ℕ) :=
  (barCell (par 0 c), 1) :: (barCell (par 1 c), 1) :: (barCell (par 2 c), 1) :: (barCell (par 3 c), 1) :: due0 c

def L (g : GSem nD τ sig) : Finset Unit := if g.1.2 = .tc then {()} else ∅
/-- The level of a role: a device waits only for cells below everything it still owes. -/
def roleLevel : Role → ℕ
  | .bar => 1
  | .exit => 10
  | .send _ => 0
  | .recv j => 2 + rnd j
  | .other => 0
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- Something owed under a list is owed under one of its entries. -/
theorem owe_pos (l : List (GSem nD τ sig × ℕ)) (g : GSem nD τ sig) (u : Unit) (h : 0 < owe l g u) : ∃ x ∈ l, g = x.1 := by
  induction l with
  | nil => exact absurd h (Nat.lt_irrefl 0)
  | cons x l ih =>
    rw [owe_cons] at h
    have h' : 0 < owe l g u + tallyAt x.1 () x.2 g u := h
    by_cases hx : g = x.1
    · exact ⟨x, List.mem_cons_self, hx⟩
    · rw [tallyAt_apply, if_neg (fun e => hx e.1), Nat.add_zero] at h'
      obtain ⟨y, hy, e⟩ := ih h'
      exact ⟨y, List.mem_cons_of_mem _ hy, e⟩

/-- A device may wait for a cell below all it owes. -/
theorem mayWait (c : Dev nD) (sm : SemLoc sig) (l : List (GSem nD τ sig × ℕ))
    (h : ∀ x ∈ l, x.1.1.2 = .tc ∧ roleLevel (role sm) < roleLevel (role x.1.2)) :
    (levAts L lv : sProp 𝕄) ⊢ MayWait (c : Thread nD τ) sm () (owe l) :=
  MayOwe.of_cut (L := L) (lev := lv) (roleLevel (role sm))
    (fun p hp => by rw [Finset.mem_singleton.mp hp, L_tc]; exact Finset.mem_singleton_self _)
    (fun g u hg => by
      obtain ⟨x, hx, e⟩ := owe_pos l g u hg
      rw [e, L, if_pos (h x hx).1]; exact Finset.mem_singleton_self _)
    (fun p hp => by rw [Finset.mem_singleton.mp hp]; exact le_refl _)
    (fun g u hg => by
      obtain ⟨x, hx, e⟩ := owe_pos l g u hg
      rw [e]; exact (h x hx).2)

/-! ## All cells together -/

/-- The semaphores a device uses inside the kernel only: the closing meeting's, then the eight source counters, then the
    eight destination counters. -/
def osem : Fin 17 → SemLoc sig := fun i =>
  if i.val = 0 then .reg exitS
  else if h : i.val < 9 then .dma (sendS ⟨i.val - 1, by omega⟩)
  else .dma (recvS ⟨i.val - 9, by have := i.isLt; omega⟩)

/-- The position of a source counter in that list. -/
def ixSend (j : Fin 8) : Fin 17 := ⟨1 + j.val, by have := j.isLt; omega⟩
/-- The position of a destination counter in that list. -/
def ixRecv (j : Fin 8) : Fin 17 := ⟨9 + j.val, by have := j.isLt; omega⟩

theorem osem_send (j : Fin 8) : osem (ixSend j) = .dma (sendS j) := by revert j; decide
theorem osem_recv (j : Fin 8) : osem (ixRecv j) = .dma (recvS j) := by revert j; decide
theorem osem_inj : Function.Injective osem := by decide

abbrev scCell (c : Dev nD) (i : Fin 17) : GSem nD τ sig := ((c : Thread nD τ), osem i)

theorem barCell_inj : Function.Injective (barCell : Dev nD → GSem nD τ sig) := fun _ _ h => congrArg (fun g => g.1.1) h
theorem scCell_inj : Function.Injective (fun x : Dev nD × Fin 17 => scCell x.1 x.2) := fun a b h =>
  Prod.ext (congrArg (fun g => g.1.1) h) (osem_inj (congrArg (fun g => g.2) h))

def barEmb : Dev nD ↪ GSem nD τ sig := ⟨barCell, barCell_inj⟩
def scEmb : Dev nD × Fin 17 ↪ GSem nD τ sig := ⟨fun x => scCell x.1 x.2, scCell_inj⟩

/-- The barrier cells, open from the launch on. -/
def barCells : Finset (GSem nD τ sig) := Finset.univ.map barEmb
/-- The cells a device opens when it enters the kernel. -/
def scCells : Finset (GSem nD τ sig) := Finset.univ.map scEmb

theorem mem_bar (c : Dev nD) : barCell c ∈ barCells ∪ scCells :=
  Finset.mem_union_left _ (Finset.mem_map_of_mem barEmb (Finset.mem_univ c))
theorem mem_sc (c : Dev nD) (i : Fin 17) : scCell c i ∈ barCells ∪ scCells :=
  Finset.mem_union_right _ (Finset.mem_map_of_mem scEmb (Finset.mem_univ (c, i)))

theorem disjoint_cells : Disjoint barCells scCells :=
  Finset.disjoint_left.mpr fun g h h' => by
    obtain ⟨c, -, rfl⟩ := Finset.mem_map.mp h
    obtain ⟨⟨d, i⟩, -, e⟩ := Finset.mem_map.mp h'
    have e2 : osem i = .reg barrier0 := congrArg (fun g => g.2) e
    exact (by decide : ∀ i, osem i ≠ .reg barrier0) i e2

/-- Every cell of the protocol keeps its invariant, at the names `K`. -/
def invAll (K : GSem nD τ sig → ℕ) : sProp 𝕄 := bigSep (barCells ∪ scCells) fun g => cellInv ER (rd B) (K g) g

instance invAll_persistent (K : GSem nD τ sig → ℕ) : BI.Persistent (invAll B K) := by unfold invAll; infer_instance

section Inv

variable (K : GSem nD τ sig → ℕ) (c : Dev nD) (j : Fin 8)

theorem inv_bar : invAll B K ⊢ cellInv ER (rd B) (K (barCell c)) (barCell c) := bigSep_elim (mem_bar c)
theorem inv_exit : invAll B K ⊢ cellInv ER (rd B) (K (exitCell c)) (exitCell c) := bigSep_elim (mem_sc c 0)
theorem inv_send : invAll B K ⊢ cellInv ER (rd B) (K (sendCell c j)) (sendCell c j) := by
  have h := mem_sc c (ixSend j)
  rw [scCell, osem_send] at h
  exact bigSep_elim h
theorem inv_recv : invAll B K ⊢ cellInv ER (rd B) (K (recvCell c j)) (recvCell c j) := by
  have h := mem_sc c (ixRecv j)
  rw [scCell, osem_recv] at h
  exact bigSep_elim h

end Inv

end Cert.Cube

end
-- ==== Proof.Steps.lean ====
/-
  The steps of the kernel's body, each stated once for a symbolic device and, where it can be, a symbolic transfer.
-/
module

public import proofs.«01_k».proof.Proof.Protocol

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- Running the body's program `p` on device `c`, ending in `Q`. -/
abbrev Run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## Reading and writing a slice held through its squeezed view -/

section Slices

variable {s u : Shape} (c : Dev nD) (m : Memref sig .tc .vmem s .f32) (r : Rect s) (hr : ∀ a, r.stride a = 1) (sq : r.shape.Squeezes u)

/-- What the slice reads is what its squeezed view reads, in the slice's shape. -/
theorem read_slice_of_squeeze (f : m.view.ref.ty.Contents (Elt F)) (h : u.ShapeCasts r.shape) :
    (m.access r).read (Elt F) f = shapeCast r.shape (((m.slice r hr).squeeze u sq).view.read (Elt F) f) h := by
  funext i
  have e : Shape.reshapeEquiv sq.numel_eq (Shape.reshapeEquiv h i) = i := by
    rw [Shape.reshapeEquiv_reshapeEquiv, Shape.reshapeEquiv_self]
  show (m.access r).read (Elt F) f i = (m.access r).read (Elt F) f (Shape.reshapeEquiv sq.numel_eq (Shape.reshapeEquiv h i))
  rw [e]

/-- After a whole store through the slice, the squeezed view reads what was stored, in its own shape. -/
theorem read_squeeze_of_write (f : m.view.ref.ty.Contents (Elt F)) (w : r.shape.Idx → Elt F .f32) (h : r.shape.ShapeCasts u) :
    ((m.slice r hr).squeeze u sq).view.read (Elt F) ((m.access r).write (Elt F) f w Finset.univ) = shapeCast u w h := by
  funext j
  show (m.access r).read (Elt F) ((m.access r).write (Elt F) f w Finset.univ) (Shape.reshapeEquiv sq.numel_eq j) = w (Shape.reshapeEquiv h j)
  rw [View.read_write_univ]

theorem set_squeeze : ((m.slice r hr).squeeze u sq).view.set = (m.access r).set := View.set_reshape _ _

/-- A load of a slice whose squeezed view is owned. -/
theorem load_slice {q : PosShare TreeShare} (v : FVec F u .f32) (h : u.ShapeCasts r.shape) {hl : m.view.LoadsAt r.toLoadRect}
    {k : (r.shape.Idx → Elt F .f32) → Prog (TpuEff nD τ sig (Elt F) Λ₀ .tc) PUnit} {Q : PUnit → sProp 𝕄} :
    owns (c : Thread nD τ) ((m.slice r hr).squeeze u sq) q v
      ⊢ iprop((owns (c : Thread nD τ) ((m.slice r hr).squeeze u sq) q v -∗ Run c (k (shapeCast r.shape v h)) Q)
          -∗ Run c (.op (.load m r.toLoadRect hl) k) Q) := by
  unfold owns
  iintro ⟨%f, %hf, Hp⟩ Hk
  iapply (wp_load_rect 𝒱₀ (c : Thread nD τ) none Set.univ (m := m) (r := r) (f := f) (q := q)
    (S := ((m.slice r hr).squeeze u sq).view.set) (by rw [set_squeeze])) $$ Hp
  iintro Hp
  rw [read_slice_of_squeeze m r hr sq f h, hf]
  iapply Hk
  iexists f
  isplitr; · ipureintro; exact hf
  iexact Hp

/-- A store over a slice whose squeezed view is owned. -/
theorem store_slice (v : FVec F u .f32) (w : r.shape.Idx → Elt F .f32) (v' : FVec F u .f32) (h : r.shape.ShapeCasts u)
    (hv : shapeCast u w h = v')
    {hx : (m.access r).Stores Finset.univ} {hm : Finset.univ = Finset.univ ∨ ∀ a, r.stride a = 1}
    {k : PUnit → Prog (TpuEff nD τ sig (Elt F) Λ₀ .tc) PUnit} {Q : PUnit → sProp 𝕄} :
    owns (c : Thread nD τ) ((m.slice r hr).squeeze u sq) fullShare v
      ⊢ iprop((owns (c : Thread nD τ) ((m.slice r hr).squeeze u sq) fullShare v' -∗ Run c (k ⟨⟩) Q)
          -∗ Run c (.op (.store m r w Finset.univ hx hm) k) Q) := by
  unfold owns
  iintro ⟨%f, %hf, Hp⟩ Hk
  iapply (wp_store 𝒱₀ (c : Thread nD τ) none Set.univ (m := m) (r := r) (w := w) (Mk := Finset.univ) (f := f)
    (S := ((m.slice r hr).squeeze u sq).view.set) (by rw [set_squeeze]; exact subset_rfl)) $$ Hp
  iintro Hp
  iapply Hk
  iexists _
  isplitr
  · ipureintro; rw [read_squeeze_of_write m r hr sq f w h]; exact hv
  iexact Hp

end Slices

/-! ## Meetings -/

variable (B : Parts F)

/-- What a device owes beside what it has waited for. -/
def owesSome (c : Dev nD) (l : List (GSem nD τ sig × ℕ)) : sProp 𝕄 := iprop(∃ W, owes (c : Thread nD τ) (owe l) W)

/-- The opening signal to the neighbour along dimension `k`: it hands over the two landing slots that neighbour will write. -/
theorem step_barSignal (K : GSem nD τ sig → ℕ) (c n : Dev nD) (k : Fin 4) (hn : n = par k c) (l : List (GSem nD τ sig × ℕ))
    {kk : PUnit → Prog (TpuEff nD τ sig (Elt F) Λ₀ .tc) PUnit} {Q : PUnit → sProp 𝕄} :
    iprop(invAll B K ∗ owesSome c ((barCell (par k c), 1) :: l) ∗ dutyTok ER (barCell (par k c)) 0 k
        ∗ reached ER (barCell (par k c)) 0 ∗ barPay (F := F) c k)
      ⊢ iprop((owesSome c l -∗ Run c (kk ⟨⟩) Q)
          -∗ Run c (.op (.semSignal (n, .tc) barrier0 1) kk) Q) := by
  subst hn
  unfold owesSome
  iintro ⟨#Hinv, ⟨%W, HO⟩, Ht, #Hr, Hpay⟩ Hk
  iapply (Rounds.wp_signal 𝒱₀ ER (rd B) (c : Thread nD τ) none (dst := (par k c : Thread nD τ)) (sem := barrier0) (r := 0) (d := k)
      (κ := K (barCell (par k c))) (by rw [duties_bar]; exact Finset.mem_univ _) (amount_bar B (par k c) k) () (owe l)
      (owe_cons (barCell (par k c), 1) l))
    $$ [HO Ht Hpay]
  · isplitr; · iapply (inv_bar B K (par k c)); iexact Hinv
    isplitl [HO]; · iexact HO
    isplitl [Ht]; · iexact Ht
    isplitl [Hpay]
    · rw [payload_bar, par_par]; iexact Hpay
    · iexact Hr
  iintro HO
  iapply Hk
  iexists W; iexact HO

/-- The closing signal to the neighbour along dimension `k`. -/
theorem step_exitSignal (K : GSem nD τ sig → ℕ) (c n : Dev nD) (k : Fin 4) (hn : n = par k c) (sem : Sem sig) (hs : sem = exitS)
    (l : List (GSem nD τ sig × ℕ))
    {kk : PUnit → Prog (TpuEff nD τ sig (Elt F) Λ₀ .tc) PUnit} {Q : PUnit → sProp 𝕄} :
    iprop(invAll B K ∗ owesSome c ((exitCell (par k c), 1) :: l) ∗ dutyTok ER (exitCell (par k c)) 0 k
        ∗ reached ER (exitCell (par k c)) 0)
      ⊢ iprop((owesSome c l -∗ Run c (kk ⟨⟩) Q)
          -∗ Run c (.op (.semSignal (n, .tc) sem 1) kk) Q) := by
  subst hn hs
  unfold owesSome
  iintro ⟨#Hinv, ⟨%W, HO⟩, Ht, #Hr⟩ Hk
  iapply (Rounds.wp_signal 𝒱₀ ER (rd B) (c : Thread nD τ) none (dst := (par k c : Thread nD τ)) (sem := exitS) (r := 0) (d := k)
      (κ := K (exitCell (par k c))) (by rw [duties_exit]; exact Finset.mem_univ _) (amount_exit B (par k c) k) () (owe l)
      (owe_cons (exitCell (par k c), 1) l))
    $$ [HO Ht]
  · isplitr; · iapply (inv_exit B K (par k c)); iexact Hinv
    isplitl [HO]; · iexact HO
    isplitl [Ht]; · iexact Ht
    isplitr
    · rw [payload_exit]; iempintro
    · iexact Hr
  iintro HO
  iapply Hk
  iexists W; iexact HO

/-- The opening wait: it brings the neighbours' landing slots. -/
theorem step_barWait (K : GSem nD τ sig → ℕ) (c : Dev nD) (l : List (GSem nD τ sig × ℕ))
    (hl : ∀ x ∈ l, x.1.1.2 = .tc ∧ roleLevel (role (.reg barrier0)) < roleLevel (role x.1.2))
    {kk : PUnit → Prog (TpuEff nD τ sig (Elt F) Λ₀ .tc) PUnit} {Q : PUnit → sProp 𝕄} :
    iprop(invAll B K ∗ levAts L lv ∗ cred (tallyAt (barCell c) () 4) ∗ owesSome c l ∗ atPos ER (barCell c) 0 ∅ 0)
      ⊢ iprop(((owesSome c l ∗ atPos ER (barCell c) 1 ∅ 0 ∗ barPay (F := F) (par 0 c) 0 ∗ barPay (F := F) (par 1 c) 1
            ∗ barPay (F := F) (par 2 c) 2 ∗ barPay (F := F) (par 3 c) 3) -∗ Run c (kk ⟨⟩) Q)
          -∗ Run c (.op (.semWait barrier0 4) kk) Q) := by
  unfold owesSome
  iintro ⟨#Hinv, #Hlev, Hc, ⟨%W, HO⟩, Hat⟩ Hk
  iapply (Rounds.wp_wait_rest_token 𝒱₀ ER (rd B) (c : Thread nD τ) none (κ := K (barCell c))
      (wpE_semWait_eq 𝒱₀ (c : Thread nD τ) none Set.univ) (Set.mem_univ _) () (O := owe l) (W := W) (R := 0) (m := 0) (T := ∅)
      ((Nat.zero_add 4).trans (expect_bar B c).symm)) $$ [Hc HO Hat]
  · isplitr; · iapply (inv_bar B K c); iexact Hinv
    isplitl [Hc]; · iexact Hc
    isplitl [HO]; · iexact HO
    isplitr; · iapply (mayWait c _ l hl); iexact Hlev
    iexact Hat
  iintro ⟨HO, Hat, -, Hpay⟩
  ihave Hp := (Entails.of_eq (rest_bar B c)) $$ Hpay
  iapply Hk
  isplitl [HO]; · iexists _; iexact HO
  isplitl [Hat]; · iexact Hat
  iexact Hp

/-- The closing wait. -/
theorem step_exitWait (K : GSem nD τ sig → ℕ) (c : Dev nD) (sem : Sem sig) (hs : sem = exitS)
    {kk : PUnit → Prog (TpuEff nD τ sig (Elt F) Λ₀ .tc) PUnit} {Q : PUnit → sProp 𝕄} :
    iprop(invAll B K ∗ cred (tallyAt (exitCell c) () 4) ∗ owesSome c [] ∗ atPos ER (exitCell c) 0 ∅ 0)
      ⊢ iprop(((owesSome c [] ∗ atPos ER (exitCell c) 1 ∅ 0) -∗ Run c (kk ⟨⟩) Q)
          -∗ Run c (.op (.semWait sem 4) kk) Q) := by
  subst hs
  unfold owesSome
  iintro ⟨#Hinv, Hc, ⟨%W, HO⟩, Hat⟩ Hk
  iapply (Rounds.wp_wait_rest_token 𝒱₀ ER (rd B) (c : Thread nD τ) none (κ := K (exitCell c))
      (wpE_semWait_eq 𝒱₀ (c : Thread nD τ) none Set.univ) (Set.mem_univ _) () (O := owe []) (W := W) (R := 0) (m := 0) (T := ∅)
      ((Nat.zero_add 4).trans (expect_exit B c).symm)) $$ [Hc HO Hat]
  · isplitr; · iapply (inv_exit B K c); iexact Hinv
    isplitl [Hc]; · iexact Hc
    isplitl [HO]; · iexact HO
    isplitr; · rw [owe_nil, MayWait_zero]; iempintro
    iexact Hat
  iintro ⟨HO, Hat, -, -⟩
  iapply Hk
  isplitl [HO]; · iexists _; iexact HO
  iexact Hat

/-! ## Copies -/

/-- What device `c` holds for transfer `j` before it starts. -/
def ready (c : Dev nD) (j : Fin 8) : sProp 𝕄 :=
  iprop(atPos ER (sendCell c j) 0 ∅ 0 ∗ atPos ER (recvCell c j) 0 ∅ 0 ∗ reached ER (sendCell c j) 0
    ∗ cred (tallyAt (recvCell c j) () N) ∗ dutyTok ER (sendCell c j) 0 0 ∗ dutyTok ER (recvCell (par (dim j) c) j) 0 0)
/-- The neighbour's landing slot for transfer `j`, with the news that its counter is open. -/
def target (c : Dev nD) (j : Fin 8) : sProp 𝕄 :=
  iprop(slotAny (F := F) (par (dim j) c) j ∗ reached ER (recvCell (par (dim j) c) j) 0)
/-- What it holds while the copy flies. -/
def flying (c : Dev nD) (j : Fin 8) : sProp 𝕄 :=
  iprop(atPos ER (sendCell c j) 0 ∅ 0 ∗ atPos ER (recvCell c j) 0 ∅ 0 ∗ cred (tallyAt (sendCell c j) () N) ∗ cred (tallyAt (recvCell c j) () N))
/-- What it holds once its own copy has left. -/
def left (c : Dev nD) (j : Fin 8) : sProp 𝕄 :=
  iprop(atPos ER (sendCell c j) 1 ∅ 0 ∗ atPos ER (recvCell c j) 0 ∅ 0 ∗ cred (tallyAt (recvCell c j) () N))
/-- What it holds once the neighbour's copy has arrived too. -/
def passed (c : Dev nD) (j : Fin 8) : sProp 𝕄 :=
  iprop(atPos ER (sendCell c j) 1 ∅ 0 ∗ atPos ER (recvCell c j) 1 ∅ 0)

/-- Starting transfer `j`: the neighbour's landing slot is paid to its counter with this half written into it. -/
theorem step_send (K : GSem nD τ sig → ℕ) (c n : Dev nD) (j : Fin 8) (hn : n = par (dim j) c)
    {src dst : Memref sig .tc .vmem S128x512 .f32} (h1 : src = outM (half j)) (h2 : dst = slotM j)
    {sS sR : DmaSem sig} (h3 : sS = sendS j) (h4 : sR = recvS j) (l : List (GSem nD τ sig × ℕ))
    {hsc : dst.view.ref.isScScratch = false} {hsrc : src.view.WordExact} {hdst : dst.view.WordExact}
    {hsem : DmaTarget.Typed .vmem (.dma sR) (.remote (n : Thread nD τ) dst (.dma sS) hsc)}
    {kk : PUnit → Prog (TpuEff nD τ sig (Elt F) Λ₀ .tc) PUnit} {Q : PUnit → sProp 𝕄} :
    iprop(invAll B K ∗ ready c j ∗ target c j ∗ owns (c : Thread nD τ) (outM (half j)) fullShare (carried B j c)
        ∗ owesSome c ((recvCell (par (dim j) c) j, N) :: l))
      ⊢ iprop(((flying c j ∗ owesSome c l) -∗ Run c (kk ⟨⟩) Q)
          -∗ Run c (.op (.enqueueDma src (.remote (n : Thread nD τ) dst (.dma sS) hsc) (.dma sR) hsrc hdst hsem) kk) Q) := by
  subst hn h1 h2 h3 h4
  unfold ready target slotAny owesSome owns
  iintro ⟨#Hinv, ⟨HaS, HaR, #HrS, HcR, HtS, HtR⟩, ⟨⟨%v, %fd, -, Hd⟩, #HrR⟩, ⟨%fs, %hfs, Hs⟩, ⟨%W, HO⟩⟩ Hk
  iapply (Rounds.wp_send_pointsTo 𝒱₀ ER (rd B) (c : Thread nD τ) none (c' := (par (dim j) c : Thread nD τ)) (src := outM (half j)) (dst := slotM j)
      (sS := .dma (sendS j)) (sem := .dma (recvS j)) (q := fullShare) (fs := fs) (κ₁ := K (sendCell c j)) (κ₂ := K (recvCell (par (dim j) c) j))
      (r₁ := 0) (r₂ := 0) (d₁ := 0) (d₂ := 0) (fd := fd)
      (by rw [duties_send]; exact Finset.mem_singleton_self _) (by rw [duties_recv]; exact Finset.mem_singleton_self _)
      () () N (slot_credit j) (amount_send B c j 0) (amount_recv B (par (dim j) c) j 0) (owe l) (owe_cons (recvCell (par (dim j) c) j, N) l) (W := W)
      (by
        rw [payload_send]; unfold sendPay; rw [← hfs]; exact owns_intro _ _ _ _)
      (by
        rw [payload_recv]; unfold recvPay; rw [par_par, ← hfs]
        have e := owns_intro (Ix := Unit) (Name := ℕ) (U := UU) (Lvl := ℕ) (par (dim j) c : Thread nD τ) (slotM j) fullShare
          ((slotM j).view.write (Elt F) fd ((outM (half j)).view.read (Elt F) fs) Finset.univ)
        rw [View.read_write_univ] at e
        exact e)) $$ [Hs Hd HO HtS HtR]
  · isplitr; · iapply (inv_send B K c j); iexact Hinv
    isplitr; · iapply (inv_recv B K (par (dim j) c) j); iexact Hinv
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  unfold flying
  isplitr [HO]
  · isplitl [HaS]; · iexact HaS
    isplitl [HaR]; · iexact HaR
    isplitl [HcS]; · iexact HcS
    iexact HcR
  iexists W; iexact HO

/-- Waiting for the own copy to leave: the half comes back unchanged. -/
theorem step_waitSend (K : GSem nD τ sig → ℕ) (c : Dev nD) (j : Fin 8)
    {src dst : Memref sig .tc .vmem S128x512 .f32} (h2 : dst = outM (half j)) {sS : DmaSem sig} (h3 : sS = sendS j)
    (l : List (GSem nD τ sig × ℕ)) (hl : ∀ x ∈ l, x.1.1.2 = .tc ∧ 0 < roleLevel (role x.1.2))
    {hsrc : src.view.WordExact} {hdst : dst.view.WordExact}
    {kk : PUnit → Prog (TpuEff nD τ sig (Elt F) Λ₀ .tc) PUnit} {Q : PUnit → sProp 𝕄} :
    iprop(invAll B K ∗ levAts L lv ∗ flying c j ∗ owesSome c l)
      ⊢ iprop(((left c j ∗ owns (c : Thread nD τ) (outM (half j)) fullShare (carried B j c) ∗ owesSome c l) -∗ Run c (kk ⟨⟩) Q)
          -∗ Run c (.op (.waitDma2 sS src dst hsrc hdst) kk) Q) := by
  subst h2 h3
  unfold flying left owesSome
  iintro ⟨#Hinv, #Hlev, ⟨HaS, HaR, HcS, HcR⟩, ⟨%W, HO⟩⟩ Hk
  iapply (Rounds.wp_wait_rest_token 𝒱₀ ER (rd B) (c : Thread nD τ) none (κ := K (sendCell c j)) (k' := (outM (half j)).view.dmaCredit)
      (wpE_waitDma2_eq 𝒱₀ (c : Thread nD τ) none Set.univ) (Set.mem_univ _) () (O := owe l) (W := W) (R := 0) (m := 0) (T := ∅)
      ((Nat.zero_add _).trans ((out_credit (half j)).trans (expect_send B c j).symm))) $$ [HcS HO HaS]
  · isplitr; · iapply (inv_send B K c j); iexact Hinv
    isplitl [HcS]; · rw [out_credit]; iexact HcS
    isplitl [HO]; · iexact HO
    isplitr; · iapply (mayWait c _ l (by rw [role_send]; exact hl)); iexact Hlev
    iexact HaS
  iintro ⟨HO, HaS, -, Hpay⟩
  ihave Hp := (Entails.of_eq (rest_send B c j)) $$ Hpay
  unfold sendPay
  iapply Hk
  isplitl [HaS HaR HcR]
  · isplitl [HaS]; · iexact HaS
    isplitl [HaR]; · iexact HaR
    iexact HcR
  isplitl [Hp]; · iexact Hp
  iexists _; iexact HO

/-- Waiting for the neighbour's copy to arrive: the landing slot comes back at what the neighbour sent. -/
theorem step_waitRecv (K : GSem nD τ sig → ℕ) (c : Dev nD) (j : Fin 8)
    {src dst : Memref sig .tc .vmem S128x512 .f32} (h2 : dst = slotM j) {sR : DmaSem sig} (h3 : sR = recvS j)
    (l : List (GSem nD τ sig × ℕ)) (hl : ∀ x ∈ l, x.1.1.2 = .tc ∧ 2 + rnd j < roleLevel (role x.1.2))
    {hsrc : src.view.WordExact} {hdst : dst.view.WordExact}
    {kk : PUnit → Prog (TpuEff nD τ sig (Elt F) Λ₀ .tc) PUnit} {Q : PUnit → sProp 𝕄} :
    iprop(invAll B K ∗ levAts L lv ∗ left c j ∗ owesSome c l)
      ⊢ iprop(((passed c j ∗ owns (c : Thread nD τ) (slotM j) fullShare (carried B j (par (dim j) c)) ∗ owesSome c l) -∗ Run c (kk ⟨⟩) Q)
          -∗ Run c (.op (.waitDma2 sR src dst hsrc hdst) kk) Q) := by
  subst h2 h3
  unfold passed left owesSome
  iintro ⟨#Hinv, #Hlev, ⟨HaS, HaR, HcR⟩, ⟨%W, HO⟩⟩ Hk
  iapply (Rounds.wp_wait_rest_token 𝒱₀ ER (rd B) (c : Thread nD τ) none (κ := K (recvCell c j)) (k' := (slotM j).view.dmaCredit)
      (wpE_waitDma2_eq 𝒱₀ (c : Thread nD τ) none Set.univ) (Set.mem_univ _) () (O := owe l) (W := W) (R := 0) (m := 0) (T := ∅)
      ((Nat.zero_add _).trans ((slot_credit j).trans (expect_recv B c j).symm))) $$ [HcR HO HaR]
  · isplitr; · iapply (inv_recv B K c j); iexact Hinv
    isplitl [HcR]; · rw [slot_credit]; iexact HcR
    isplitl [HO]; · iexact HO
    isplitr; · iapply (mayWait c _ l (by rw [role_recv]; exact hl)); iexact Hlev
    iexact HaR
  iintro ⟨HO, HaR, -, Hpay⟩
  ihave Hp := (Entails.of_eq (rest_recv B c j)) $$ Hpay
  unfold recvPay
  iapply Hk
  isplitl [HaS HaR]
  · isplitl [HaS]; · iexact HaS
    iexact HaR
  isplitl [Hp]; · iexact Hp
  iexists _; iexact HO

/-! ## Combining a half with what landed -/

theorem cast_half : S128x512.ShapeCasts S1x128x512 := by decide
theorem cast_half' : S1x128x512.ShapeCasts S128x512 := by decide
theorem cast_slot : S128x512.ShapeCasts S1x1x128x512 := by decide

/-- The sum of a half and a landed matrix, in the shape the kernel stores it. -/
def combined (a : Vec F S1x128x512 .f32) (b : Vec F S1x1x128x512 .f32) : FVec F S1x128x512 .f32 :=
  shapeCast S1x128x512 (addf (shapeCast S128x512 a) (shapeCast S128x512 b))

theorem combined_eq (v w : FVec F S128x512 .f32) :
    shapeCast S128x512 (combined (shapeCast S1x128x512 v) (shapeCast S1x1x128x512 w)) = addf v w := by
  unfold combined
  rw [shapeCast_shapeCast, shapeCast_shapeCast, shapeCast_shapeCast]

/-- The kernel's four instructions that add a landing slot into a half. -/
theorem step_combine (c : Dev nD) {off : Fin 3 → ℕ} {inb : ∀ a, off a + S1x128x512.size a ≤ S2x128x512.size a}
    {off' : Fin 4 → ℕ} {inb' : ∀ a, off' a + S1x1x128x512.size a ≤ S4x2x128x512.size a}
    (mo ms : Memref sig .tc .vmem S128x512 .f32)
    (ho : mo = (accM.slice (Rect.unit (s := S2x128x512) off S1x128x512.size inb) (fun _ => rfl)).squeeze S128x512 squeezes_S1x128x512_S128x512)
    (hs : ms = (landM.slice (Rect.unit (s := S4x2x128x512) off' S1x1x128x512.size inb') (fun _ => rfl)).squeeze S128x512 squeezes_S1x1x128x512_S128x512)
    (v w : FVec F S128x512 .f32)
    {h1 h3 : accM.view.LoadsAt (Rect.unit (s := S2x128x512) off S1x128x512.size inb).toLoadRect}
    {h2 : landM.view.LoadsAt (Rect.unit (s := S4x2x128x512) off' S1x1x128x512.size inb').toLoadRect}
    {hx : (accM.access (Rect.unit (s := S2x128x512) off S1x128x512.size inb)).Stores Finset.univ}
    {hm : Finset.univ = Finset.univ ∨ ∀ a, (Rect.unit (s := S2x128x512) off S1x128x512.size inb).stride a = 1}
    (pay : Vec F S1x128x512 .f32 → Vec F S1x1x128x512 .f32 → FVec F S1x128x512 .f32) (hpay : pay = combined)
    {kk : PUnit → Prog (TpuEff nD τ sig (Elt F) Λ₀ .tc) PUnit} {Q : PUnit → sProp 𝕄} :
    iprop(owns (c : Thread nD τ) mo fullShare v ∗ owns (c : Thread nD τ) ms fullShare w)
      ⊢ iprop(((owns (c : Thread nD τ) mo fullShare (addf v w) ∗ owns (c : Thread nD τ) ms fullShare w) -∗ Run c (kk ⟨⟩) Q)
          -∗ Run c (.op (.load accM (Rect.unit (s := S2x128x512) off S1x128x512.size inb).toLoadRect h1) fun a =>
              .op (.load landM (Rect.unit (s := S4x2x128x512) off' S1x1x128x512.size inb').toLoadRect h2) fun b =>
              .op (.load accM (Rect.unit (s := S2x128x512) off S1x128x512.size inb).toLoadRect h3) fun _ =>
              .op (.store accM (Rect.unit (s := S2x128x512) off S1x128x512.size inb) (pay a b) Finset.univ hx hm) kk) Q) := by
  subst ho hs hpay
  iintro ⟨Ho, Hs⟩ Hk
  iapply (load_slice c accM (Rect.unit (s := S2x128x512) off S1x128x512.size inb) (fun _ => rfl) squeezes_S1x128x512_S128x512 v cast_half) $$ Ho
  iintro Ho
  iapply (load_slice c landM (Rect.unit (s := S4x2x128x512) off' S1x1x128x512.size inb') (fun _ => rfl) squeezes_S1x1x128x512_S128x512 w cast_slot) $$ Hs
  iintro Hs
  iapply (load_slice c accM (Rect.unit (s := S2x128x512) off S1x128x512.size inb) (fun _ => rfl) squeezes_S1x128x512_S128x512 v cast_half) $$ Ho
  iintro Ho
  iapply (store_slice c accM (Rect.unit (s := S2x128x512) off S1x128x512.size inb) (fun _ => rfl) squeezes_S1x128x512_S128x512 v
    (combined (shapeCast S1x128x512 v cast_half) (shapeCast S1x1x128x512 w cast_slot)) (addf v w) cast_half' (combined_eq v w)) $$ Ho
  iintro Ho
  iapply Hk
  isplitl [Ho]; · iexact Ho
  iexact Hs

end Cert.Cube

end
-- ==== Proof.Geometry.lean ====
/-
  The two buffers the copies touch, cut into the pieces that travel: the accumulator into its two halves, the landing
  buffer into its eight slots.
-/
module

public import proofs.«01_k».proof.Proof.Steps
public import Idealize.ShloMosaic.Lib.ValueLayout

@[expose] public section

set_option maxRecDepth 16384

noncomputable section

namespace Cert.Cube

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Every element type has a value. -/
instance elt_nonempty : ∀ e, Nonempty (Elt F e) := fun e => ⟨match e with
  | .i1 => (0 : BitVec 1) | .i4 => (0 : BitVec 4) | .i8 => (0 : BitVec 8) | .i16 => (0 : BitVec 16) | .i32 => (0 : BitVec 32) | .i64 => (0 : BitVec 64)
  | .fp8e4m3 => FloatOps.ofBits .fp8e4m3 0 | .fp8e5m2 => FloatOps.ofBits .fp8e5m2 0 | .bf16 => FloatOps.ofBits .bf16 0
  | .f16 => FloatOps.ofBits .f16 0 | .f32 => FloatOps.ofBits .f32 0⟩

section Squeeze

variable {s u : Shape} (c : Dev nD) (m : Memref sig .tc .vmem s .f32) (r : Rect s) (hr : ∀ a, r.stride a = 1)
  (sq : r.shape.Squeezes u) (q : PosShare TreeShare)

/-- A piece owned through its squeezed view is owned as a slice, at the same contents in the slice's shape; -/
theorem slice_of_squeeze (v : FVec F u .f32) (h : u.ShapeCasts r.shape) :
    (owns (c : Thread nD τ) ((m.slice r hr).squeeze u sq) q v : sProp 𝕄)
      ⊢ owns (c : Thread nD τ) (m.slice r hr) q (shapeCast r.shape v h) := by
  unfold owns
  rw [set_squeeze]
  iintro ⟨%f, %hf, H⟩
  iexists f
  isplitr
  · ipureintro; rw [← hf]; exact read_slice_of_squeeze m r hr sq f h
  iexact H

/-- and the other way. -/
theorem squeeze_of_slice (v : FVec F u .f32) (h : u.ShapeCasts r.shape) (h' : r.shape.ShapeCasts u) :
    (owns (c : Thread nD τ) (m.slice r hr) q (shapeCast r.shape v h) : sProp 𝕄)
      ⊢ owns (c : Thread nD τ) ((m.slice r hr).squeeze u sq) q v := by
  unfold owns
  rw [set_squeeze]
  iintro ⟨%f, %hf, H⟩
  iexists f
  isplitr
  · ipureintro
    have e := (read_slice_of_squeeze m r hr sq f h).symm.trans hf
    have e' := congrArg (fun x => shapeCast u x h') e
    simp only [shapeCast_shapeCast, shapeCast_self] at e'
    exact e'
  iexact H

theorem squeeze_of_slice' (w : r.shape.Idx → Elt F .f32) (h : u.ShapeCasts r.shape) (h' : r.shape.ShapeCasts u) :
    (owns (c : Thread nD τ) (m.slice r hr) q w : sProp 𝕄)
      ⊢ owns (c : Thread nD τ) ((m.slice r hr).squeeze u sq) q (shapeCast u w h') := by
  have e := squeeze_of_slice (F := F) c m r hr sq q (shapeCast u w h') h h'
  rw [shapeCast_shapeCast] at e
  exact e

/-- Owning a piece at some contents, either way. -/
theorem some_slice_of_squeeze (h : u.ShapeCasts r.shape) :
    (iprop(∃ v, owns (c : Thread nD τ) ((m.slice r hr).squeeze u sq) q v) : sProp 𝕄)
      ⊢ iprop(∃ w, owns (c : Thread nD τ) (m.slice r hr) q w) := by
  iintro ⟨%v, H⟩
  iexists (shapeCast r.shape v h)
  iapply (slice_of_squeeze c m r hr sq q v h); iexact H
theorem some_squeeze_of_slice (h : u.ShapeCasts r.shape) (h' : r.shape.ShapeCasts u) :
    (iprop(∃ w, owns (c : Thread nD τ) (m.slice r hr) q w) : sProp 𝕄)
      ⊢ iprop(∃ v, owns (c : Thread nD τ) ((m.slice r hr).squeeze u sq) q v) := by
  iintro ⟨%w, H⟩
  iexists (shapeCast u w h')
  iapply (squeeze_of_slice' c m r hr sq q w h h'); iexact H

end Squeeze

/-! ## The accumulator -/

theorem outR_unit (t : Fin 2) : ∀ a, (outR t).stride a = 1 := by
  fin_cases t <;> exact fun _ => rfl

theorem outR_disjoint (t t' : Fin 2) (h : t ≠ t') : Disjoint (outR t).set (outR t').set := by
  fin_cases t <;> fin_cases t' <;> first | exact absurd rfl h | exact Rect.disjoint_of_separated _ _ 0 (by decide)

theorem outR_cover : (Finset.univ : Finset (Fin 2)).biUnion (fun t => (outR t).set) = Finset.univ := by
  ext i
  simp only [Finset.mem_biUnion, Finset.mem_univ, true_and, iff_true]
  have h0 : (i 0).val < 2 := (i 0).isLt
  have h1 : (i 1).val < 128 := (i 1).isLt
  have h2 : (i 2).val < 512 := (i 2).isLt
  by_cases h : (i 0).val = 0
  · refine ⟨0, (Rect.mem_set_unit (inb := inb_S2x128x512_S1x128x512_0_0_0)).mpr fun a => ?_⟩
    match a with
    | 0 => exact ⟨Nat.zero_le _, by show (i 0).val < 0 + 1; omega⟩
    | 1 => exact ⟨Nat.zero_le _, by show (i 1).val < 0 + 128; omega⟩
    | 2 => exact ⟨Nat.zero_le _, by show (i 2).val < 0 + 512; omega⟩
  · refine ⟨1, (Rect.mem_set_unit (inb := inb_S2x128x512_S1x128x512_1_0_0)).mpr fun a => ?_⟩
    match a with
    | 0 => exact ⟨by show 1 ≤ (i 0).val; omega, by show (i 0).val < 1 + 1; omega⟩
    | 1 => exact ⟨Nat.zero_le _, by show (i 1).val < 0 + 128; omega⟩
    | 2 => exact ⟨Nat.zero_le _, by show (i 2).val < 0 + 512; omega⟩

/-- Two halves put together. -/
def joined (v : Fin 2 → FVec F S128x512 .f32) : FVec F S2x128x512 .f32 :=
  fun i => v (i 0) (ix2 (i 1) (i 2))

/-- The joined contents at an index, by its coordinates. -/
theorem joined_at (v : Fin 2 → FVec F S128x512 .f32) (i : S2x128x512.Idx) (t : Fin 2) (b : Fin 128) (d : Fin 512)
    (h0 : (i 0).val = t.val) (h1 : (i 1).val = b.val) (h2 : (i 2).val = d.val) : joined v i = v t (ix2 b d) := by
  show v (i 0) (ix2 (i 1) (i 2)) = _
  rw [show i 0 = t from Fin.ext h0, show i 1 = b from Fin.ext h1, show i 2 = d from Fin.ext h2]

/-- What the joined contents hold on a half's rectangle, in the half's own shape. -/
theorem joined_zero (v : Fin 2 → FVec F S128x512 .f32) :
    (fun j => joined v ((outR 0).emb j)) = shapeCast S1x128x512 (v 0) cast_half := by
  funext j
  obtain ⟨a, b, d, rfl⟩ : ∃ (a : Fin 1) (b : Fin 128) (d : Fin 512), j = ix3 a b d := ⟨_, _, _, eq_ix3 j⟩
  rw [shapeCast_ab_1ab_apply]
  have ha : a.val = 0 := by omega
  exact joined_at v _ 0 b d (by show 0 + 1 * a.val = 0; omega) (by show 0 + 1 * b.val = b.val; omega) (by show 0 + 1 * d.val = d.val; omega)
theorem joined_one (v : Fin 2 → FVec F S128x512 .f32) :
    (fun j => joined v ((outR 1).emb j)) = shapeCast S1x128x512 (v 1) cast_half := by
  funext j
  obtain ⟨a, b, d, rfl⟩ : ∃ (a : Fin 1) (b : Fin 128) (d : Fin 512), j = ix3 a b d := ⟨_, _, _, eq_ix3 j⟩
  rw [shapeCast_ab_1ab_apply]
  have ha : a.val = 0 := by omega
  exact joined_at v _ 1 b d (by show 1 + 1 * a.val = 1; omega) (by show 0 + 1 * b.val = b.val; omega) (by show 0 + 1 * d.val = d.val; omega)

/-- The two halves, as the copies see them, make the whole accumulator at the joined contents. -/
theorem acc_join (c : Dev nD) (v : Fin 2 → FVec F S128x512 .f32) :
    iprop(owns (c : Thread nD τ) (outM 0) fullShare (v 0) ∗ owns (c : Thread nD τ) (outM 1) fullShare (v 1))
      ⊢ ((c : Thread nD τ).loc cc0_stg5_0 ↦{fullShare} joined v : sProp 𝕄) := by
  have h0 := slice_of_squeeze (F := F) c accM (outR 0) (outR_unit 0) squeezes_S1x128x512_S128x512 fullShare (v 0) cast_half
  have h1 := slice_of_squeeze (F := F) c accM (outR 1) (outR_unit 1) squeezes_S1x128x512_S128x512 fullShare (v 1) cast_half
  rw [← owns_whole]
  refine (BI.sep_mono h0 h1).trans ?_
  refine BIBase.Entails.trans ?_ (owns_of_rects (Val := Elt F) (c : Thread nD τ) accM fullShare outR outR_unit outR_disjoint outR_cover (joined v))
  rw [bigSep_fin_two, joined_zero, joined_one]
  exact .rfl

/-- The whole accumulator at any contents falls into two halves. -/
theorem acc_split (c : Dev nD) (f : FVec F S2x128x512 .f32) :
    ((c : Thread nD τ).loc cc0_stg5_0 ↦{fullShare} f : sProp 𝕄)
      ⊢ iprop((∃ v, owns (c : Thread nD τ) (outM 0) fullShare v) ∗ (∃ v, owns (c : Thread nD τ) (outM 1) fullShare v)) := by
  rw [← owns_whole]
  refine (owns_rects (Val := Elt F) (c : Thread nD τ) accM fullShare outR outR_unit outR_disjoint outR_cover f).trans ?_
  rw [bigSep_fin_two]
  have h0 := squeeze_of_slice' (F := F) c accM (outR 0) (outR_unit 0) squeezes_S1x128x512_S128x512 fullShare
    (fun j => f ((outR 0).emb j)) cast_half cast_half'
  have h1 := squeeze_of_slice' (F := F) c accM (outR 1) (outR_unit 1) squeezes_S1x128x512_S128x512 fullShare
    (fun j => f ((outR 1).emb j)) cast_half cast_half'
  refine (show iprop(owns (c : Thread nD τ) (accM.slice (outR 0) (outR_unit 0)) fullShare (fun j => f ((outR 0).emb j))
    ∗ owns (c : Thread nD τ) (accM.slice (outR 1) (outR_unit 1)) fullShare (fun j => f ((outR 1).emb j))) ⊢ (_ : sProp 𝕄) from ?_)
  iintro ⟨H0, H1⟩
  isplitl [H0]
  · iexists _; iapply h0; iexact H0
  · iexists _; iapply h1; iexact H1

/-! ## The landing buffer -/

theorem slotR_unit (t : Fin 8) : ∀ a, (slotR t).stride a = 1 := by
  fin_cases t <;> exact fun _ => rfl

theorem slotR_disjoint (t t' : Fin 8) (h : t ≠ t') : Disjoint (slotR t).set (slotR t').set := by
  fin_cases t <;> fin_cases t' <;>
    first
    | exact absurd rfl h
    | exact Rect.disjoint_of_separated _ _ 0 (by decide)
    | exact Rect.disjoint_of_separated _ _ 1 (by decide)

theorem cast_slot' : S1x1x128x512.ShapeCasts S128x512 := by decide

theorem mem_slot (p q : ℕ) (inb : ∀ a, (![p, q, 0, 0] : Fin 4 → ℕ) a + S1x1x128x512.size a ≤ S4x2x128x512.size a) (i : S4x2x128x512.Idx)
    (h0 : (i 0).val = p) (h1 : (i 1).val = q) :
    i ∈ (Rect.unit (s := S4x2x128x512) ![p, q, 0, 0] S1x1x128x512.size inb).set := by
  have h2 : (i 2).val < 128 := (i 2).isLt
  have h3 : (i 3).val < 512 := (i 3).isLt
  refine Rect.mem_set_unit.mpr fun a => ?_
  match a with
  | 0 => exact ⟨by show p ≤ (i 0).val; omega, by show (i 0).val < p + 1; omega⟩
  | 1 => exact ⟨by show q ≤ (i 1).val; omega, by show (i 1).val < q + 1; omega⟩
  | 2 => exact ⟨Nat.zero_le _, by show (i 2).val < 0 + 128; omega⟩
  | 3 => exact ⟨Nat.zero_le _, by show (i 3).val < 0 + 512; omega⟩

/-- Where a slot's rectangle lies. -/
theorem mem_slotR (t : Fin 8) (i : S4x2x128x512.Idx) (h0 : (i 0).val = t.val / 2) (h1 : (i 1).val = t.val % 2) : i ∈ (slotR t).set := by
  match t with
  | 0 => exact mem_slot 0 0 inb_S4x2x128x512_S1x1x128x512_0_0_0_0 i h0 h1
  | 1 => exact mem_slot 0 1 inb_S4x2x128x512_S1x1x128x512_0_1_0_0 i h0 h1
  | 2 => exact mem_slot 1 0 inb_S4x2x128x512_S1x1x128x512_1_0_0_0 i h0 h1
  | 3 => exact mem_slot 1 1 inb_S4x2x128x512_S1x1x128x512_1_1_0_0 i h0 h1
  | 4 => exact mem_slot 2 0 inb_S4x2x128x512_S1x1x128x512_2_0_0_0 i h0 h1
  | 5 => exact mem_slot 2 1 inb_S4x2x128x512_S1x1x128x512_2_1_0_0 i h0 h1
  | 6 => exact mem_slot 3 0 inb_S4x2x128x512_S1x1x128x512_3_0_0_0 i h0 h1
  | 7 => exact mem_slot 3 1 inb_S4x2x128x512_S1x1x128x512_3_1_0_0 i h0 h1

theorem slotR_cover : (Finset.univ : Finset (Fin 8)).biUnion (fun t => (slotR t).set) = Finset.univ := by
  ext i
  simp only [Finset.mem_biUnion, Finset.mem_univ, true_and, iff_true]
  have h0 : (i 0).val < 4 := (i 0).isLt
  have h1 : (i 1).val < 2 := (i 1).isLt
  exact ⟨⟨2 * (i 0).val + (i 1).val, by omega⟩, mem_slotR _ i (by show (i 0).val = (2 * (i 0).val + (i 1).val) / 2; omega)
    (by show (i 1).val = (2 * (i 0).val + (i 1).val) % 2; omega)⟩

/-- Contents of disjoint rectangles come from one contents. -/
theorem exists_glue {s : Shape} {T : Type} (r : T → Rect s) (hd : ∀ t t', t ≠ t' → Disjoint (r t).set (r t').set)
    (Y : ∀ t, (r t).shape.Idx → Elt F .f32) : ∃ X : s.Idx → Elt F .f32, ∀ t, (fun j => X ((r t).emb j)) = Y t := by
  classical
  have hne : Nonempty (Elt F .f32) := elt_nonempty _
  refine ⟨fun i => if h : ∃ t, ∃ j, (r t).emb j = i then Y h.choose h.choose_spec.choose else Classical.arbitrary _, fun t => ?_⟩
  funext j
  have h : ∃ t', ∃ j', (r t').emb j' = (r t).emb j := ⟨t, j, rfl⟩
  show (if h : ∃ t', ∃ j', (r t').emb j' = (r t).emb j then Y h.choose h.choose_spec.choose else Classical.arbitrary _) = Y t j
  rw [dif_pos h]
  have hs := h.choose_spec.choose_spec
  generalize h.choose_spec.choose = j' at hs
  revert j'
  generalize h.choose = t'
  intro j' hs
  by_cases ht : t' = t
  · subst ht
    rw [(r t').emb.injective hs]
  · have h1 : (r t).emb j ∈ (r t').set := by rw [← hs]; exact (r t').idx_mem j'
    exact absurd ((r t).idx_mem j) (Finset.disjoint_left.mp (hd t' t ht) h1)

theorem slice_of_slot (c : Dev nD) (t : Fin 8) :
    (slotAny (F := F) c t : sProp 𝕄) ⊢ iprop(∃ w, owns (c : Thread nD τ) (landM.slice (slotR t) (slotR_unit t)) fullShare w) := by
  unfold slotAny
  fin_cases t <;>
    exact some_slice_of_squeeze (F := F) c landM _ (fun _ => rfl) squeezes_S1x1x128x512_S128x512 fullShare cast_slot

theorem slot_of_slice (c : Dev nD) (t : Fin 8) :
    (iprop(∃ w, owns (c : Thread nD τ) (landM.slice (slotR t) (slotR_unit t)) fullShare w) : sProp 𝕄) ⊢ slotAny (F := F) c t := by
  unfold slotAny
  fin_cases t <;>
    exact some_squeeze_of_slice (F := F) c landM _ (fun _ => rfl) squeezes_S1x1x128x512_S128x512 fullShare cast_slot cast_slot'

/-- The landing buffer at any contents falls into its eight slots, -/
theorem land_split (c : Dev nD) (f : FVec F S4x2x128x512 .f32) :
    ((c : Thread nD τ).loc cc0_scratch0 ↦{fullShare} f : sProp 𝕄) ⊢ bigSep Finset.univ fun t => slotAny (F := F) c t := by
  rw [← owns_whole]
  refine (owns_rects (Val := Elt F) (c : Thread nD τ) landM fullShare slotR slotR_unit slotR_disjoint slotR_cover f).trans ?_
  refine bigSep_mono fun t _ => BIBase.Entails.trans ?_ (slot_of_slice c t)
  iintro H
  iexists _; iexact H

/-- and the eight slots make it again. -/
theorem land_join (c : Dev nD) :
    (bigSep Finset.univ (fun t => slotAny (F := F) c t) : sProp 𝕄) ⊢ iprop(∃ f, (c : Thread nD τ).loc cc0_scratch0 ↦{fullShare} f) := by
  refine (bigSep_mono fun t _ => slice_of_slot c t).trans ?_
  haveI : ∀ t : Fin 8, Nonempty ((slotR t).shape.Idx → Elt F .f32) := fun t => ⟨fun _ => (elt_nonempty (F := F) .f32).some⟩
  refine (Idealize.SL.BI.bigSep_exists_pi Finset.univ (fun t w => (owns (c : Thread nD τ) (landM.slice (slotR t) (slotR_unit t)) fullShare w : sProp 𝕄))).trans ?_
  iintro ⟨%Y, H⟩
  obtain ⟨X, hX⟩ := exists_glue slotR slotR_disjoint Y
  iexists X
  rw [← owns_whole]
  iapply (owns_of_rects (Val := Elt F) (c : Thread nD τ) landM fullShare slotR slotR_unit slotR_disjoint slotR_cover X)
  simp only [hX]
  iexact H

end Cert.Cube

end
-- ==== Proof.Body.lean ====
/-
  The kernel's body on one symbolic device: the meeting, the attention over the device's own heads, four rounds of
  exchanges, the closing meeting.
-/
module

public import proofs.«01_k».proof.Proof.Geometry
public import proofs.«01_k».proof.Proof.Gen.KernelIdeal.Skeleton

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What a device adds to the sum -/

section Partials

variable (X0 : Vec F S2x128x512 .bf16) (X1 : Vec F S512x256 .bf16) (X2 X3 : Vec F S2x128x4x64 .bf16) (X4 : Vec F S256x512 .bf16)

/-- The rows of one batch entry and one head, out of the keys or the values. -/
abbrev headOf (off : Fin 4 → ℕ) (inb : ∀ a, off a + S1x128x1x64.size a ≤ S2x128x4x64.size a) (X : Vec F S2x128x4x64 .bf16) :
    Vec F S1x128x1x64 .bf16 :=
  fun j => X ((Rect.unit (s := S2x128x4x64) off S1x128x1x64.size inb).emb j)

/-- What the device stores for batch entry 0. -/
def partial0 : FVec F S1x128x512 .f32 :=
  k0_pay10 (k0_pay2 X4)
    (k0_pay3 (k0_pay1 X0 X1) (headOf ![0, 0, 0, 0] inb_S2x128x4x64_S1x128x1x64_0_0_0_0 X2) (headOf ![0, 0, 0, 0] inb_S2x128x4x64_S1x128x1x64_0_0_0_0 X3))
    (k0_pay6 (k0_pay4 (headOf ![0, 0, 1, 0] inb_S2x128x4x64_S1x128x1x64_0_0_1_0 X3)) (k0_pay5 (k0_pay1 X0 X1) (headOf ![0, 0, 1, 0] inb_S2x128x4x64_S1x128x1x64_0_0_1_0 X2)) (constant S128x64 .f32 0x00000000#32))
    (k0_pay7 (k0_pay1 X0 X1) (headOf ![0, 0, 2, 0] inb_S2x128x4x64_S1x128x1x64_0_0_2_0 X2) (headOf ![0, 0, 2, 0] inb_S2x128x4x64_S1x128x1x64_0_0_2_0 X3))
    (k0_pay8 (headOf ![0, 0, 3, 0] inb_S2x128x4x64_S1x128x1x64_0_0_3_0 X3)) (k0_pay9 (k0_pay1 X0 X1) (headOf ![0, 0, 3, 0] inb_S2x128x4x64_S1x128x1x64_0_0_3_0 X2)) (constant S128x64 .f32 0x00000000#32)

/-- What the device stores for batch entry 1. -/
def partial1 : FVec F S1x128x512 .f32 :=
  k0_pay18 (k0_pay2 X4)
    (k0_pay11 (k0_pay1 X0 X1) (headOf ![1, 0, 0, 0] inb_S2x128x4x64_S1x128x1x64_1_0_0_0 X2) (headOf ![1, 0, 0, 0] inb_S2x128x4x64_S1x128x1x64_1_0_0_0 X3))
    (k0_pay14 (k0_pay12 (k0_pay1 X0 X1) (headOf ![1, 0, 1, 0] inb_S2x128x4x64_S1x128x1x64_1_0_1_0 X2)) (k0_pay13 (k0_pay1 X0 X1) (headOf ![1, 0, 1, 0] inb_S2x128x4x64_S1x128x1x64_1_0_1_0 X2)) (headOf ![1, 0, 1, 0] inb_S2x128x4x64_S1x128x1x64_1_0_1_0 X3))
    (k0_pay15 (k0_pay1 X0 X1) (headOf ![1, 0, 2, 0] inb_S2x128x4x64_S1x128x1x64_1_0_2_0 X2) (headOf ![1, 0, 2, 0] inb_S2x128x4x64_S1x128x1x64_1_0_2_0 X3))
    (k0_pay16 (k0_pay1 X0 X1) (headOf ![1, 0, 3, 0] inb_S2x128x4x64_S1x128x1x64_1_0_3_0 X2)) (k0_pay17 (k0_pay1 X0 X1) (headOf ![1, 0, 3, 0] inb_S2x128x4x64_S1x128x1x64_1_0_3_0 X2)) (headOf ![1, 0, 3, 0] inb_S2x128x4x64_S1x128x1x64_1_0_3_0 X3)

/-- A device's two matrices before the first round. -/
def own : Fin 2 → FVec F S128x512 .f32 := fun
  | 0 => shapeCast S128x512 (partial0 X0 X1 X2 X3 X4) cast_half'
  | 1 => shapeCast S128x512 (partial1 X0 X1 X2 X3 X4) cast_half'

end Partials

/-! ## More steps -/

/-- A load out of a buffer held whole, at what the rectangle reads of it. -/
theorem load_whole (c : Dev nD) {s : Shape} {e : EltTy} (m : Memref sig .tc .vmem s e) (r : Rect s) (X : m.view.ref.ty.Contents (Elt F))
    (v : r.shape.Idx → Elt F e) (hv : (m.access r).read (Elt F) X = v) {q : PosShare TreeShare} {hl : m.view.LoadsAt r.toLoadRect}
    {k : (r.shape.Idx → Elt F e) → Prog (TpuEff nD τ sig (Elt F) Λ₀ .tc) PUnit} {Q : PUnit → sProp 𝕄} :
    (m.view.loc (c : Thread nD τ) ↦{q} X : sProp 𝕄)
      ⊢ iprop(((m.view.loc (c : Thread nD τ) ↦{q} X) -∗ Run c (k v) Q) -∗ Run c (.op (.load m r.toLoadRect hl) k) Q) := by
  subst hv
  iintro Hp Hk
  iapply (wp_load_rect 𝒱₀ (c : Thread nD τ) none Set.univ (m := m) (r := r) (f := X) (q := q)
    (S := Finset.univ) (Finset.subset_univ _)) $$ Hp
  iintro Hp
  iapply Hk; iexact Hp

/-- The kernel's store of a whole half, with the load before it. -/
theorem step_fill (c : Dev nD) {off : Fin 3 → ℕ} {inb : ∀ a, off a + S1x128x512.size a ≤ S2x128x512.size a}
    (mo : Memref sig .tc .vmem S128x512 .f32)
    (ho : mo = (accM.slice (Rect.unit (s := S2x128x512) off S1x128x512.size inb) (fun _ => rfl)).squeeze S128x512 squeezes_S1x128x512_S128x512)
    (v v' : FVec F S128x512 .f32) (w : FVec F S1x128x512 .f32) (hv : shapeCast S128x512 w cast_half' = v')
    {h1 : accM.view.LoadsAt (Rect.unit (s := S2x128x512) off S1x128x512.size inb).toLoadRect}
    {hx : (accM.access (Rect.unit (s := S2x128x512) off S1x128x512.size inb)).Stores Finset.univ}
    {hm : Finset.univ = Finset.univ ∨ ∀ a, (Rect.unit (s := S2x128x512) off S1x128x512.size inb).stride a = 1}
    {kk : PUnit → Prog (TpuEff nD τ sig (Elt F) Λ₀ .tc) PUnit} {Q : PUnit → sProp 𝕄} :
    (owns (c : Thread nD τ) mo fullShare v : sProp 𝕄)
      ⊢ iprop((owns (c : Thread nD τ) mo fullShare v' -∗ Run c (kk ⟨⟩) Q)
          -∗ Run c (.op (.load accM (Rect.unit (s := S2x128x512) off S1x128x512.size inb).toLoadRect h1) fun _ =>
              .op (.store accM (Rect.unit (s := S2x128x512) off S1x128x512.size inb) w Finset.univ hx hm) kk) Q) := by
  subst ho
  iintro Ho Hk
  iapply (load_slice c accM (Rect.unit (s := S2x128x512) off S1x128x512.size inb) (fun _ => rfl) squeezes_S1x128x512_S128x512 v cast_half) $$ Ho
  iintro Ho
  iapply (store_slice c accM (Rect.unit (s := S2x128x512) off S1x128x512.size inb) (fun _ => rfl) squeezes_S1x128x512_S128x512 v
    w v' cast_half' hv) $$ Ho
  iintro Ho
  iapply Hk; iexact Ho

variable (B : Parts F)

theorem dm_eq (j : Fin 8) : dm (rnd j) (half j) = dim j := by revert j; decide

/-- What landed added to the half it met, and the landing slot left over. -/
theorem step_exchange (c : Dev nD) (j : Fin 8) {off : Fin 3 → ℕ} {inb : ∀ a, off a + S1x128x512.size a ≤ S2x128x512.size a}
    {off' : Fin 4 → ℕ} {inb' : ∀ a, off' a + S1x1x128x512.size a ≤ S4x2x128x512.size a}
    (ho : outM (half j) = (accM.slice (Rect.unit (s := S2x128x512) off S1x128x512.size inb) (fun _ => rfl)).squeeze S128x512 squeezes_S1x128x512_S128x512)
    (hs : slotM j = (landM.slice (Rect.unit (s := S4x2x128x512) off' S1x1x128x512.size inb') (fun _ => rfl)).squeeze S128x512 squeezes_S1x1x128x512_S128x512)
    (h : Fin 2) (r : ℕ) (hh : half j = h) (hr : rnd j + 1 = r)
    {h1 h3 : accM.view.LoadsAt (Rect.unit (s := S2x128x512) off S1x128x512.size inb).toLoadRect}
    {h2 : landM.view.LoadsAt (Rect.unit (s := S4x2x128x512) off' S1x1x128x512.size inb').toLoadRect}
    {hx : (accM.access (Rect.unit (s := S2x128x512) off S1x128x512.size inb)).Stores Finset.univ}
    {hm : Finset.univ = Finset.univ ∨ ∀ a, (Rect.unit (s := S2x128x512) off S1x128x512.size inb).stride a = 1}
    (pay : Vec F S1x128x512 .f32 → Vec F S1x1x128x512 .f32 → FVec F S1x128x512 .f32) (hpay : pay = combined)
    {kk : PUnit → Prog (TpuEff nD τ sig (Elt F) Λ₀ .tc) PUnit} {Q : PUnit → sProp 𝕄} :
    iprop(owns (c : Thread nD τ) (outM (half j)) fullShare (carried B j c)
        ∗ owns (c : Thread nD τ) (slotM j) fullShare (carried B j (par (dim j) c)))
      ⊢ iprop(((owns (c : Thread nD τ) (outM h) fullShare (acc B r h c) ∗ slotAny (F := F) c j) -∗ Run c (kk ⟨⟩) Q)
          -∗ Run c (.op (.load accM (Rect.unit (s := S2x128x512) off S1x128x512.size inb).toLoadRect h1) fun a =>
              .op (.load landM (Rect.unit (s := S4x2x128x512) off' S1x1x128x512.size inb').toLoadRect h2) fun b =>
              .op (.load accM (Rect.unit (s := S2x128x512) off S1x128x512.size inb).toLoadRect h3) fun _ =>
              .op (.store accM (Rect.unit (s := S2x128x512) off S1x128x512.size inb) (pay a b) Finset.univ hx hm) kk) Q) := by
  subst hh hr
  have e : acc B (rnd j + 1) (half j) c = addf (carried B j c) (carried B j (par (dim j) c)) := by
    show addf (acc B (rnd j) (half j) c) (acc B (rnd j) (half j) (par (dm (rnd j) (half j)) c)) = _
    rw [dm_eq]; rfl
  rw [e]
  iintro H Hk
  iapply (step_combine c (outM (half j)) (slotM j) ho hs (carried B j c) (carried B j (par (dim j) c)) pay hpay) $$ H
  iintro ⟨H1, H2⟩
  iapply Hk
  isplitl [H1]; · iexact H1
  unfold slotAny; iexists _; iexact H2

/-! ## Levels -/

theorem recv_above (n : ℕ) (d : Dev nD) (j : Fin 8) (h : n < 2 + rnd j) (l : List (GSem nD τ sig × ℕ))
    (hl : ∀ x ∈ l, x.1.1.2 = .tc ∧ n < roleLevel (role x.1.2)) :
    ∀ x ∈ ((recvCell d j, N) :: l : List (GSem nD τ sig × ℕ)), x.1.1.2 = .tc ∧ n < roleLevel (role x.1.2) :=
  List.forall_mem_cons.mpr ⟨⟨rfl, by show n < roleLevel (role (.dma (recvS j))); rw [role_recv]; exact h⟩, hl⟩

/-- The closing meeting lies above every round. -/
theorem exit_above (n : ℕ) (h : n < 10) (c : Dev nD) : ∀ x ∈ dueExit c, x.1.1.2 = .tc ∧ n < roleLevel (role x.1.2) := by
  intro x hx
  simp only [dueExit, List.mem_cons, List.not_mem_nil, or_false] at hx
  have e : n < roleLevel (role (.reg exitS)) := by rw [role_exit]; exact h
  rcases hx with rfl | rfl | rfl | rfl <;> exact ⟨rfl, e⟩
theorem due3_above (n : ℕ) (h : n < 5) (c : Dev nD) : ∀ x ∈ due3 c, x.1.1.2 = .tc ∧ n < roleLevel (role x.1.2) :=
  recv_above n _ 6 (by show n < 5; omega) _ (recv_above n _ 7 (by show n < 5; omega) _ (exit_above n (by omega) c))
theorem due2_above (n : ℕ) (h : n < 4) (c : Dev nD) : ∀ x ∈ due2 c, x.1.1.2 = .tc ∧ n < roleLevel (role x.1.2) :=
  recv_above n _ 4 (by show n < 4; omega) _ (recv_above n _ 5 (by show n < 4; omega) _ (due3_above n (by omega) c))
theorem due1_above (n : ℕ) (h : n < 3) (c : Dev nD) : ∀ x ∈ due1 c, x.1.1.2 = .tc ∧ n < roleLevel (role x.1.2) :=
  recv_above n _ 2 (by show n < 3; omega) _ (recv_above n _ 3 (by show n < 3; omega) _ (due2_above n (by omega) c))
theorem due0_above (n : ℕ) (h : n < 2) (c : Dev nD) : ∀ x ∈ due0 c, x.1.1.2 = .tc ∧ n < roleLevel (role x.1.2) :=
  recv_above n _ 0 (by show n < 2; omega) _ (recv_above n _ 1 (by show n < 2; omega) _ (due1_above n (by omega) c))
theorem bar_level : roleLevel (role (.reg barrier0)) = 1 := by rw [role_bar]; rfl

theorem dim_low (k : Fin 4) : dim (lowJ k) = k := by revert k; decide
theorem dim_high (k : Fin 4) : dim (highJ k) = k := by revert k; decide

/-- What a neighbour hands over, as the targets of this device's two transfers to it. -/
theorem target_of_bar (c : Dev nD) (k : Fin 4) (a b : Fin 8) (ha : lowJ k = a) (hb : highJ k = b) :
    (barPay (F := F) (par k c) k : sProp 𝕄) ⊢ iprop(target (F := F) c a ∗ target (F := F) c b ∗ reached ER (exitCell (par k c)) 0) := by
  subst ha hb
  unfold barPay target
  rw [dim_low, dim_high]
  iintro ⟨H1, H2, #R1, #R2, #R3⟩
  isplitl [H1]
  · isplitl [H1]; · iexact H1
    iexact R1
  isplitl [H2]
  · isplitl [H2]; · iexact H2
    iexact R2
  iexact R3

/-- What this device hands to its neighbour. -/
theorem bar_of_slots (c : Dev nD) (k : Fin 4) (a b : Fin 8) (ha : lowJ k = a) (hb : highJ k = b) :
    iprop(slotAny (F := F) c a ∗ slotAny (F := F) c b ∗ reached ER (recvCell c a) 0 ∗ reached ER (recvCell c b) 0 ∗ reached ER (exitCell c) 0)
      ⊢ (barPay (F := F) c k : sProp 𝕄) := by
  subst ha hb
  exact .rfl

/-! ## What a device starts and ends with -/

/-- The protocol's share of what device `c` starts the body with. -/
def start (c : Dev nD) : sProp 𝕄 :=
  iprop((bigSep Finset.univ fun j : Fin 8 => ready (F := F) c j)
    ∗ (bigSep Finset.univ fun j : Fin 8 => reached ER (recvCell c j) 0) ∗ reached ER (exitCell c) 0
    ∗ (bigSep Finset.univ fun k : Fin 4 => iprop(dutyTok ER (barCell (par k c)) 0 k ∗ reached ER (barCell (par k c)) 0
        ∗ dutyTok ER (exitCell (par k c)) 0 k))
    ∗ atPos ER (barCell c) 0 ∅ 0 ∗ atPos ER (exitCell c) 0 ∅ 0 ∗ cred (tallyAt (barCell c) () 4) ∗ cred (tallyAt (exitCell c) () 4)
    ∗ owesSome c (dues c))

/-- The protocol's share of what it ends with: every counter past its only round, nothing owed. -/
def done (c : Dev nD) : sProp 𝕄 :=
  iprop((bigSep Finset.univ fun j : Fin 8 => passed (F := F) c j) ∗ atPos ER (barCell c) 1 ∅ 0 ∗ atPos ER (exitCell c) 1 ∅ 0
    ∗ owesSome c [])

/-- The five operands in their staging buffers. -/
def operands (c : Dev nD) (X0 : Vec F S2x128x512 .bf16) (X1 : Vec F S512x256 .bf16) (X2 X3 : Vec F S2x128x4x64 .bf16)
    (X4 : Vec F S256x512 .bf16) : sProp 𝕄 :=
  iprop(((c : Thread nD τ).loc cc0_stg0_0 ↦{fullShare} X0) ∗ ((c : Thread nD τ).loc cc0_stg1_0 ↦{fullShare} X1)
    ∗ ((c : Thread nD τ).loc cc0_stg2_0 ↦{fullShare} X2) ∗ ((c : Thread nD τ).loc cc0_stg3_0 ↦{fullShare} X3)
    ∗ ((c : Thread nD τ).loc cc0_stg4_0 ↦{fullShare} X4))

/-- The kernel's body over the staging buffers. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) cc0_scratch1 cc0_scratch2 cc0_scoped0

/-- The body runs: from the operands, the accumulator and the landing buffer at any contents, and the protocol's share, to
    the accumulator at the sum over the sixteen devices, taken in the order of the rounds. -/
theorem body_run (K : GSem nD τ sig → ℕ) (c : Dev nD)
    (X0 : Vec F S2x128x512 .bf16) (X1 : Vec F S512x256 .bf16) (X2 X3 : Vec F S2x128x4x64 .bf16) (X4 : Vec F S256x512 .bf16)
    (hB : ∀ h, own X0 X1 X2 X3 X4 h = B h c)
    (f5 : FVec F S2x128x512 .f32) (f6 : FVec F S4x2x128x512 .f32) {Q : PUnit → sProp 𝕄} :
    iprop(invAll B K ∗ levAts L lv ∗ operands c X0 X1 X2 X3 X4
        ∗ ((c : Thread nD τ).loc cc0_stg5_0 ↦{fullShare} f5) ∗ ((c : Thread nD τ).loc cc0_scratch0 ↦{fullShare} f6) ∗ start c)
      ⊢ iprop(((operands c X0 X1 X2 X3 X4 ∗ ((c : Thread nD τ).loc cc0_stg5_0 ↦{fullShare} joined fun h => acc B 4 h c)
            ∗ (∃ f, (c : Thread nD τ).loc cc0_scratch0 ↦{fullShare} f) ∗ done c) -∗ |={Set.univ}=> Q ⟨⟩)
          -∗ Run c theBody Q) := by
  unfold operands start
  iintro ⟨#Hinv, #Hlev, ⟨H0, H1, H2, H3, H4⟩, H5, H6, ⟨Hrd, #Hrr, #Hre, Htok, Hab, Hae, Hcb, Hce, HO⟩⟩ Hk
  ihave Hacc := (acc_split c f5) $$ H5
  icases Hacc with ⟨⟨%w0, HA0⟩, ⟨%w1, HA1⟩⟩
  ihave Hsl := (land_split c f6) $$ H6
  unfold Run theBody
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, Prog.bind_assoc, wp_deviceId]
  ihave Hsl := (Entails.of_eq (bigSep_eight _)) $$ Hsl
  icases Hsl with ⟨S0, S1, S2, S3, S4, S5, S6, S7⟩
  ihave Hrr := (Entails.of_eq (bigSep_eight _)) $$ Hrr
  icases Hrr with ⟨#R0, #R1, #R2, #R3, #R4, #R5, #R6, #R7⟩
  ihave Hrd := (Entails.of_eq (bigSep_eight _)) $$ Hrd
  icases Hrd with ⟨D0, D1, D2, D3, D4, D5, D6, D7⟩
  ihave Htok := (Entails.of_eq (bigSep_four _)) $$ Htok
  icases Htok with ⟨⟨TB0, #RB0, TE0⟩, ⟨TB1, #RB1, TE1⟩, ⟨TB2, #RB2, TE2⟩, ⟨TB3, #RB3, TE3⟩⟩
  -- the opening meeting
  ihave HO := (show owesSome (F := F) c (dues c) ⊢ owesSome c ((barCell (par 0 c), 1) :: (barCell (par 1 c), 1) :: (barCell (par 2 c), 1) :: (barCell (par 3 c), 1) :: due0 c) from .rfl) $$ HO
  iapply (step_barSignal B K c _ 0 (dev1_eq c) ((barCell (par 1 c), 1) :: (barCell (par 2 c), 1) :: (barCell (par 3 c), 1) :: due0 c)) $$ [HO TB0 S0 S7]
  · isplitr; · iexact Hinv
    isplitl [HO]; · iexact HO
    isplitl [TB0]; · iexact TB0
    isplitr; · iexact RB0
    iapply (bar_of_slots c 0 0 7 rfl rfl)
    isplitl [S0]; · iexact S0
    isplitl [S7]; · iexact S7
    isplitr; · iexact R0
    isplitr; · iexact R7
    iexact Hre
  iintro HO
  iapply (step_barSignal B K c _ 1 (dev2_eq c) ((barCell (par 2 c), 1) :: (barCell (par 3 c), 1) :: due0 c)) $$ [HO TB1 S2 S5]
  · isplitr; · iexact Hinv
    isplitl [HO]; · iexact HO
    isplitl [TB1]; · iexact TB1
    isplitr; · iexact RB1
    iapply (bar_of_slots c 1 2 5 rfl rfl)
    isplitl [S2]; · iexact S2
    isplitl [S5]; · iexact S5
    isplitr; · iexact R2
    isplitr; · iexact R5
    iexact Hre
  iintro HO
  iapply (step_barSignal B K c _ 2 (dev3_eq c) ((barCell (par 3 c), 1) :: due0 c)) $$ [HO TB2 S4 S3]
  · isplitr; · iexact Hinv
    isplitl [HO]; · iexact HO
    isplitl [TB2]; · iexact TB2
    isplitr; · iexact RB2
    iapply (bar_of_slots c 2 4 3 rfl rfl)
    isplitl [S4]; · iexact S4
    isplitl [S3]; · iexact S3
    isplitr; · iexact R4
    isplitr; · iexact R3
    iexact Hre
  iintro HO
  iapply (step_barSignal B K c _ 3 (dev4_eq c) (due0 c)) $$ [HO TB3 S6 S1]
  · isplitr; · iexact Hinv
    isplitl [HO]; · iexact HO
    isplitl [TB3]; · iexact TB3
    isplitr; · iexact RB3
    iapply (bar_of_slots c 3 6 1 rfl rfl)
    isplitl [S6]; · iexact S6
    isplitl [S1]; · iexact S1
    isplitr; · iexact R6
    isplitr; · iexact R1
    iexact Hre
  iintro HO
  iapply (step_barWait B K c (due0 c) (by rw [bar_level]; exact due0_above 1 (by omega) c)) $$ [Hcb HO Hab]
  · isplitr; · iexact Hinv
    isplitr; · iexact Hlev
    isplitl [Hcb]; · iexact Hcb
    isplitl [HO]; · iexact HO
    iexact Hab
  iintro ⟨HO, Hab, P0, P1, P2, P3⟩
  ihave P0 := (target_of_bar c 0 0 7 rfl rfl) $$ P0
  icases P0 with ⟨G0, G7, #RE0⟩
  ihave P1 := (target_of_bar c 1 2 5 rfl rfl) $$ P1
  icases P1 with ⟨G2, G5, #RE1⟩
  ihave P2 := (target_of_bar c 2 4 3 rfl rfl) $$ P2
  icases P2 with ⟨G4, G3, #RE2⟩
  ihave P3 := (target_of_bar c 3 6 1 rfl rfl) $$ P3
  icases P3 with ⟨G6, G1, #RE3⟩
  -- the attention over the device's own heads
  iapply (load_whole c (Memref.whole cc0_stg0_0) (Rect.unit (s := S2x128x512) ![0, 0, 0] S2x128x512.size inb_S2x128x512_S2x128x512_0_0_0) X0 X0 (Memref.read_access_unit_zero (Elt F) cc0_stg0_0 (by decide) _ X0)) $$ H0
  iintro H0
  iapply (load_whole c (Memref.whole cc0_stg1_0) (Rect.unit (s := S512x256) ![0, 0] S512x256.size inb_S512x256_S512x256_0_0) X1 X1 (Memref.read_access_unit_zero (Elt F) cc0_stg1_0 (by decide) _ X1)) $$ H1
  iintro H1
  iapply (load_whole c (Memref.whole cc0_stg4_0) (Rect.unit (s := S256x512) ![0, 0] S256x512.size inb_S256x512_S256x512_0_0) X4 X4 (Memref.read_access_unit_zero (Elt F) cc0_stg4_0 (by decide) _ X4)) $$ H4
  iintro H4
  iapply (load_whole c (Memref.whole cc0_stg2_0) (Rect.unit (s := S2x128x4x64) ![0, 0, 0, 0] S1x128x1x64.size inb_S2x128x4x64_S1x128x1x64_0_0_0_0) X2 (headOf ![0, 0, 0, 0] inb_S2x128x4x64_S1x128x1x64_0_0_0_0 X2) rfl) $$ H2
  iintro H2
  iapply (load_whole c (Memref.whole cc0_stg3_0) (Rect.unit (s := S2x128x4x64) ![0, 0, 0, 0] S1x128x1x64.size inb_S2x128x4x64_S1x128x1x64_0_0_0_0) X3 (headOf ![0, 0, 0, 0] inb_S2x128x4x64_S1x128x1x64_0_0_0_0 X3) rfl) $$ H3
  iintro H3
  iapply (load_whole c (Memref.whole cc0_stg2_0) (Rect.unit (s := S2x128x4x64) ![0, 0, 1, 0] S1x128x1x64.size inb_S2x128x4x64_S1x128x1x64_0_0_1_0) X2 (headOf ![0, 0, 1, 0] inb_S2x128x4x64_S1x128x1x64_0_0_1_0 X2) rfl) $$ H2
  iintro H2
  iapply (load_whole c (Memref.whole cc0_stg3_0) (Rect.unit (s := S2x128x4x64) ![0, 0, 1, 0] S1x128x1x64.size inb_S2x128x4x64_S1x128x1x64_0_0_1_0) X3 (headOf ![0, 0, 1, 0] inb_S2x128x4x64_S1x128x1x64_0_0_1_0 X3) rfl) $$ H3
  iintro H3
  iapply (load_whole c (Memref.whole cc0_stg2_0) (Rect.unit (s := S2x128x4x64) ![0, 0, 2, 0] S1x128x1x64.size inb_S2x128x4x64_S1x128x1x64_0_0_2_0) X2 (headOf ![0, 0, 2, 0] inb_S2x128x4x64_S1x128x1x64_0_0_2_0 X2) rfl) $$ H2
  iintro H2
  iapply (load_whole c (Memref.whole cc0_stg3_0) (Rect.unit (s := S2x128x4x64) ![0, 0, 2, 0] S1x128x1x64.size inb_S2x128x4x64_S1x128x1x64_0_0_2_0) X3 (headOf ![0, 0, 2, 0] inb_S2x128x4x64_S1x128x1x64_0_0_2_0 X3) rfl) $$ H3
  iintro H3
  iapply (load_whole c (Memref.whole cc0_stg2_0) (Rect.unit (s := S2x128x4x64) ![0, 0, 3, 0] S1x128x1x64.size inb_S2x128x4x64_S1x128x1x64_0_0_3_0) X2 (headOf ![0, 0, 3, 0] inb_S2x128x4x64_S1x128x1x64_0_0_3_0 X2) rfl) $$ H2
  iintro H2
  iapply (load_whole c (Memref.whole cc0_stg3_0) (Rect.unit (s := S2x128x4x64) ![0, 0, 3, 0] S1x128x1x64.size inb_S2x128x4x64_S1x128x1x64_0_0_3_0) X3 (headOf ![0, 0, 3, 0] inb_S2x128x4x64_S1x128x1x64_0_0_3_0 X3) rfl) $$ H3
  iintro H3
  iapply (step_fill c (off := ![0, 0, 0]) (inb := inb_S2x128x512_S1x128x512_0_0_0) (outM 0) rfl w0 (B 0 c) (partial0 X0 X1 X2 X3 X4) (hB 0)) $$ HA0
  iintro HA0
  iapply (load_whole c (Memref.whole cc0_stg2_0) (Rect.unit (s := S2x128x4x64) ![1, 0, 0, 0] S1x128x1x64.size inb_S2x128x4x64_S1x128x1x64_1_0_0_0) X2 (headOf ![1, 0, 0, 0] inb_S2x128x4x64_S1x128x1x64_1_0_0_0 X2) rfl) $$ H2
  iintro H2
  iapply (load_whole c (Memref.whole cc0_stg3_0) (Rect.unit (s := S2x128x4x64) ![1, 0, 0, 0] S1x128x1x64.size inb_S2x128x4x64_S1x128x1x64_1_0_0_0) X3 (headOf ![1, 0, 0, 0] inb_S2x128x4x64_S1x128x1x64_1_0_0_0 X3) rfl) $$ H3
  iintro H3
  iapply (load_whole c (Memref.whole cc0_stg2_0) (Rect.unit (s := S2x128x4x64) ![1, 0, 1, 0] S1x128x1x64.size inb_S2x128x4x64_S1x128x1x64_1_0_1_0) X2 (headOf ![1, 0, 1, 0] inb_S2x128x4x64_S1x128x1x64_1_0_1_0 X2) rfl) $$ H2
  iintro H2
  iapply (load_whole c (Memref.whole cc0_stg3_0) (Rect.unit (s := S2x128x4x64) ![1, 0, 1, 0] S1x128x1x64.size inb_S2x128x4x64_S1x128x1x64_1_0_1_0) X3 (headOf ![1, 0, 1, 0] inb_S2x128x4x64_S1x128x1x64_1_0_1_0 X3) rfl) $$ H3
  iintro H3
  iapply (load_whole c (Memref.whole cc0_stg2_0) (Rect.unit (s := S2x128x4x64) ![1, 0, 2, 0] S1x128x1x64.size inb_S2x128x4x64_S1x128x1x64_1_0_2_0) X2 (headOf ![1, 0, 2, 0] inb_S2x128x4x64_S1x128x1x64_1_0_2_0 X2) rfl) $$ H2
  iintro H2
  iapply (load_whole c (Memref.whole cc0_stg3_0) (Rect.unit (s := S2x128x4x64) ![1, 0, 2, 0] S1x128x1x64.size inb_S2x128x4x64_S1x128x1x64_1_0_2_0) X3 (headOf ![1, 0, 2, 0] inb_S2x128x4x64_S1x128x1x64_1_0_2_0 X3) rfl) $$ H3
  iintro H3
  iapply (load_whole c (Memref.whole cc0_stg2_0) (Rect.unit (s := S2x128x4x64) ![1, 0, 3, 0] S1x128x1x64.size inb_S2x128x4x64_S1x128x1x64_1_0_3_0) X2 (headOf ![1, 0, 3, 0] inb_S2x128x4x64_S1x128x1x64_1_0_3_0 X2) rfl) $$ H2
  iintro H2
  iapply (load_whole c (Memref.whole cc0_stg3_0) (Rect.unit (s := S2x128x4x64) ![1, 0, 3, 0] S1x128x1x64.size inb_S2x128x4x64_S1x128x1x64_1_0_3_0) X3 (headOf ![1, 0, 3, 0] inb_S2x128x4x64_S1x128x1x64_1_0_3_0 X3) rfl) $$ H3
  iintro H3
  iapply (step_fill c (off := ![1, 0, 0]) (inb := inb_S2x128x512_S1x128x512_1_0_0) (outM 1) rfl w1 (B 1 c) (partial1 X0 X1 X2 X3 X4) (hB 1)) $$ HA1
  iintro HA1
  -- round 0
  ihave HO := (show owesSome (F := F) c (due0 c) ⊢ owesSome c ((recvCell (par (dim 0) c) 0, N) :: (recvCell (par (dim 1) c) 1, N) :: due1 c) from .rfl) $$ HO
  iapply (step_send B K c _ 0 (dev5_eq c) rfl rfl rfl rfl ((recvCell (par (dim 1) c) 1, N) :: due1 c)) $$ [D0 G0 HA0 HO]
  · isplitr; · iexact Hinv
    isplitl [D0]; · iexact D0
    isplitl [G0]; · iexact G0
    isplitl [HA0]; · iexact HA0
    iexact HO
  iintro ⟨D0, HO⟩
  iapply (step_send B K c _ 1 (dev6_eq c) rfl rfl rfl rfl (due1 c)) $$ [D1 G1 HA1 HO]
  · isplitr; · iexact Hinv
    isplitl [D1]; · iexact D1
    isplitl [G1]; · iexact G1
    isplitl [HA1]; · iexact HA1
    iexact HO
  iintro ⟨D1, HO⟩
  iapply (step_waitSend B K c 0 rfl rfl (due1 c) (due1_above 0 (by omega) c)) $$ [D0 HO]
  · isplitr; · iexact Hinv
    isplitr; · iexact Hlev
    isplitl [D0]; · iexact D0
    iexact HO
  iintro ⟨D0, HA0, HO⟩
  iapply (step_waitRecv B K c 0 rfl rfl (due1 c) (due1_above 2 (by omega) c)) $$ [D0 HO]
  · isplitr; · iexact Hinv
    isplitr; · iexact Hlev
    isplitl [D0]; · iexact D0
    iexact HO
  iintro ⟨D0, S0, HO⟩
  iapply (step_waitSend B K c 1 rfl rfl (due1 c) (due1_above 0 (by omega) c)) $$ [D1 HO]
  · isplitr; · iexact Hinv
    isplitr; · iexact Hlev
    isplitl [D1]; · iexact D1
    iexact HO
  iintro ⟨D1, HA1, HO⟩
  iapply (step_waitRecv B K c 1 rfl rfl (due1 c) (due1_above 2 (by omega) c)) $$ [D1 HO]
  · isplitr; · iexact Hinv
    isplitr; · iexact Hlev
    isplitl [D1]; · iexact D1
    iexact HO
  iintro ⟨D1, S1, HO⟩
  iapply (step_exchange B c 0 (off := ![0, 0, 0]) (inb := inb_S2x128x512_S1x128x512_0_0_0) (off' := ![0, 0, 0, 0]) (inb' := inb_S4x2x128x512_S1x1x128x512_0_0_0_0) rfl rfl 0 1 rfl rfl k0_pay19 rfl) $$ [HA0 S0]
  · isplitl [HA0]; · iexact HA0
    iexact S0
  iintro ⟨HA0, S0⟩
  iapply (step_exchange B c 1 (off := ![1, 0, 0]) (inb := inb_S2x128x512_S1x128x512_1_0_0) (off' := ![0, 1, 0, 0]) (inb' := inb_S4x2x128x512_S1x1x128x512_0_1_0_0) rfl rfl 1 1 rfl rfl k0_pay20 rfl) $$ [HA1 S1]
  · isplitl [HA1]; · iexact HA1
    iexact S1
  iintro ⟨HA1, S1⟩
  -- round 1
  ihave HO := (show owesSome (F := F) c (due1 c) ⊢ owesSome c ((recvCell (par (dim 2) c) 2, N) :: (recvCell (par (dim 3) c) 3, N) :: due2 c) from .rfl) $$ HO
  iapply (step_send B K c _ 2 (dev7_eq c) rfl rfl rfl rfl ((recvCell (par (dim 3) c) 3, N) :: due2 c)) $$ [D2 G2 HA0 HO]
  · isplitr; · iexact Hinv
    isplitl [D2]; · iexact D2
    isplitl [G2]; · iexact G2
    isplitl [HA0]; · iexact HA0
    iexact HO
  iintro ⟨D2, HO⟩
  iapply (step_send B K c _ 3 (dev8_eq c) rfl rfl rfl rfl (due2 c)) $$ [D3 G3 HA1 HO]
  · isplitr; · iexact Hinv
    isplitl [D3]; · iexact D3
    isplitl [G3]; · iexact G3
    isplitl [HA1]; · iexact HA1
    iexact HO
  iintro ⟨D3, HO⟩
  iapply (step_waitSend B K c 2 rfl rfl (due2 c) (due2_above 0 (by omega) c)) $$ [D2 HO]
  · isplitr; · iexact Hinv
    isplitr; · iexact Hlev
    isplitl [D2]; · iexact D2
    iexact HO
  iintro ⟨D2, HA0, HO⟩
  iapply (step_waitRecv B K c 2 rfl rfl (due2 c) (due2_above 3 (by omega) c)) $$ [D2 HO]
  · isplitr; · iexact Hinv
    isplitr; · iexact Hlev
    isplitl [D2]; · iexact D2
    iexact HO
  iintro ⟨D2, S2, HO⟩
  iapply (step_waitSend B K c 3 rfl rfl (due2 c) (due2_above 0 (by omega) c)) $$ [D3 HO]
  · isplitr; · iexact Hinv
    isplitr; · iexact Hlev
    isplitl [D3]; · iexact D3
    iexact HO
  iintro ⟨D3, HA1, HO⟩
  iapply (step_waitRecv B K c 3 rfl rfl (due2 c) (due2_above 3 (by omega) c)) $$ [D3 HO]
  · isplitr; · iexact Hinv
    isplitr; · iexact Hlev
    isplitl [D3]; · iexact D3
    iexact HO
  iintro ⟨D3, S3, HO⟩
  iapply (step_exchange B c 2 (off := ![0, 0, 0]) (inb := inb_S2x128x512_S1x128x512_0_0_0) (off' := ![1, 0, 0, 0]) (inb' := inb_S4x2x128x512_S1x1x128x512_1_0_0_0) rfl rfl 0 2 rfl rfl k0_pay21 rfl) $$ [HA0 S2]
  · isplitl [HA0]; · iexact HA0
    iexact S2
  iintro ⟨HA0, S2⟩
  iapply (step_exchange B c 3 (off := ![1, 0, 0]) (inb := inb_S2x128x512_S1x128x512_1_0_0) (off' := ![1, 1, 0, 0]) (inb' := inb_S4x2x128x512_S1x1x128x512_1_1_0_0) rfl rfl 1 2 rfl rfl (fun a b => k0_pay23 (k0_pay22 a b)) rfl) $$ [HA1 S3]
  · isplitl [HA1]; · iexact HA1
    iexact S3
  iintro ⟨HA1, S3⟩
  -- round 2
  ihave HO := (show owesSome (F := F) c (due2 c) ⊢ owesSome c ((recvCell (par (dim 4) c) 4, N) :: (recvCell (par (dim 5) c) 5, N) :: due3 c) from .rfl) $$ HO
  iapply (step_send B K c _ 4 (dev9_eq c) rfl rfl rfl rfl ((recvCell (par (dim 5) c) 5, N) :: due3 c)) $$ [D4 G4 HA0 HO]
  · isplitr; · iexact Hinv
    isplitl [D4]; · iexact D4
    isplitl [G4]; · iexact G4
    isplitl [HA0]; · iexact HA0
    iexact HO
  iintro ⟨D4, HO⟩
  iapply (step_send B K c _ 5 (dev10_eq c) rfl rfl rfl rfl (due3 c)) $$ [D5 G5 HA1 HO]
  · isplitr; · iexact Hinv
    isplitl [D5]; · iexact D5
    isplitl [G5]; · iexact G5
    isplitl [HA1]; · iexact HA1
    iexact HO
  iintro ⟨D5, HO⟩
  iapply (step_waitSend B K c 4 rfl rfl (due3 c) (due3_above 0 (by omega) c)) $$ [D4 HO]
  · isplitr; · iexact Hinv
    isplitr; · iexact Hlev
    isplitl [D4]; · iexact D4
    iexact HO
  iintro ⟨D4, HA0, HO⟩
  iapply (step_waitRecv B K c 4 rfl rfl (due3 c) (due3_above 4 (by omega) c)) $$ [D4 HO]
  · isplitr; · iexact Hinv
    isplitr; · iexact Hlev
    isplitl [D4]; · iexact D4
    iexact HO
  iintro ⟨D4, S4, HO⟩
  iapply (step_waitSend B K c 5 rfl rfl (due3 c) (due3_above 0 (by omega) c)) $$ [D5 HO]
  · isplitr; · iexact Hinv
    isplitr; · iexact Hlev
    isplitl [D5]; · iexact D5
    iexact HO
  iintro ⟨D5, HA1, HO⟩
  iapply (step_waitRecv B K c 5 rfl rfl (due3 c) (due3_above 4 (by omega) c)) $$ [D5 HO]
  · isplitr; · iexact Hinv
    isplitr; · iexact Hlev
    isplitl [D5]; · iexact D5
    iexact HO
  iintro ⟨D5, S5, HO⟩
  iapply (step_exchange B c 4 (off := ![0, 0, 0]) (inb := inb_S2x128x512_S1x128x512_0_0_0) (off' := ![2, 0, 0, 0]) (inb' := inb_S4x2x128x512_S1x1x128x512_2_0_0_0) rfl rfl 0 3 rfl rfl k0_pay24 rfl) $$ [HA0 S4]
  · isplitl [HA0]; · iexact HA0
    iexact S4
  iintro ⟨HA0, S4⟩
  iapply (step_exchange B c 5 (off := ![1, 0, 0]) (inb := inb_S2x128x512_S1x128x512_1_0_0) (off' := ![2, 1, 0, 0]) (inb' := inb_S4x2x128x512_S1x1x128x512_2_1_0_0) rfl rfl 1 3 rfl rfl k0_pay25 rfl) $$ [HA1 S5]
  · isplitl [HA1]; · iexact HA1
    iexact S5
  iintro ⟨HA1, S5⟩
  -- round 3
  ihave HO := (show owesSome (F := F) c (due3 c) ⊢ owesSome c ((recvCell (par (dim 6) c) 6, N) :: (recvCell (par (dim 7) c) 7, N) :: dueExit c) from .rfl) $$ HO
  iapply (step_send B K c _ 6 (dev11_eq c) rfl rfl rfl rfl ((recvCell (par (dim 7) c) 7, N) :: dueExit c)) $$ [D6 G6 HA0 HO]
  · isplitr; · iexact Hinv
    isplitl [D6]; · iexact D6
    isplitl [G6]; · iexact G6
    isplitl [HA0]; · iexact HA0
    iexact HO
  iintro ⟨D6, HO⟩
  iapply (step_send B K c _ 7 (dev12_eq c) rfl rfl rfl rfl (dueExit c)) $$ [D7 G7 HA1 HO]
  · isplitr; · iexact Hinv
    isplitl [D7]; · iexact D7
    isplitl [G7]; · iexact G7
    isplitl [HA1]; · iexact HA1
    iexact HO
  iintro ⟨D7, HO⟩
  iapply (step_waitSend B K c 6 rfl rfl (dueExit c) (exit_above 0 (by omega) c)) $$ [D6 HO]
  · isplitr; · iexact Hinv
    isplitr; · iexact Hlev
    isplitl [D6]; · iexact D6
    iexact HO
  iintro ⟨D6, HA0, HO⟩
  iapply (step_waitRecv B K c 6 rfl rfl (dueExit c) (exit_above 5 (by omega) c)) $$ [D6 HO]
  · isplitr; · iexact Hinv
    isplitr; · iexact Hlev
    isplitl [D6]; · iexact D6
    iexact HO
  iintro ⟨D6, S6, HO⟩
  iapply (step_waitSend B K c 7 rfl rfl (dueExit c) (exit_above 0 (by omega) c)) $$ [D7 HO]
  · isplitr; · iexact Hinv
    isplitr; · iexact Hlev
    isplitl [D7]; · iexact D7
    iexact HO
  iintro ⟨D7, HA1, HO⟩
  iapply (step_waitRecv B K c 7 rfl rfl (dueExit c) (exit_above 5 (by omega) c)) $$ [D7 HO]
  · isplitr; · iexact Hinv
    isplitr; · iexact Hlev
    isplitl [D7]; · iexact D7
    iexact HO
  iintro ⟨D7, S7, HO⟩
  iapply (step_exchange B c 6 (off := ![0, 0, 0]) (inb := inb_S2x128x512_S1x128x512_0_0_0) (off' := ![3, 0, 0, 0]) (inb' := inb_S4x2x128x512_S1x1x128x512_3_0_0_0) rfl rfl 0 4 rfl rfl k0_pay26 rfl) $$ [HA0 S6]
  · isplitl [HA0]; · iexact HA0
    iexact S6
  iintro ⟨HA0, S6⟩
  iapply (step_exchange B c 7 (off := ![1, 0, 0]) (inb := inb_S2x128x512_S1x128x512_1_0_0) (off' := ![3, 1, 0, 0]) (inb' := inb_S4x2x128x512_S1x1x128x512_3_1_0_0) rfl rfl 1 4 rfl rfl k0_pay27 rfl) $$ [HA1 S7]
  · isplitl [HA1]; · iexact HA1
    iexact S7
  iintro ⟨HA1, S7⟩
  -- the closing meeting
  ihave HO := (show owesSome (F := F) c (dueExit c) ⊢ owesSome c ((exitCell (par 0 c), 1) :: (exitCell (par 1 c), 1) :: (exitCell (par 2 c), 1) :: (exitCell (par 3 c), 1) :: []) from .rfl) $$ HO
  iapply (step_exitSignal B K c _ 0 (dev13_eq c) _ rfl ((exitCell (par 1 c), 1) :: (exitCell (par 2 c), 1) :: (exitCell (par 3 c), 1) :: [])) $$ [HO TE0]
  · isplitr; · iexact Hinv
    isplitl [HO]; · iexact HO
    isplitl [TE0]; · iexact TE0
    iexact RE0
  iintro HO
  iapply (step_exitSignal B K c _ 1 (dev14_eq c) _ rfl ((exitCell (par 2 c), 1) :: (exitCell (par 3 c), 1) :: [])) $$ [HO TE1]
  · isplitr; · iexact Hinv
    isplitl [HO]; · iexact HO
    isplitl [TE1]; · iexact TE1
    iexact RE1
  iintro HO
  iapply (step_exitSignal B K c _ 2 (dev15_eq c) _ rfl ((exitCell (par 3 c), 1) :: [])) $$ [HO TE2]
  · isplitr; · iexact Hinv
    isplitl [HO]; · iexact HO
    isplitl [TE2]; · iexact TE2
    iexact RE2
  iintro HO
  iapply (step_exitSignal B K c _ 3 (dev16_eq c) _ rfl ([])) $$ [HO TE3]
  · isplitr; · iexact Hinv
    isplitl [HO]; · iexact HO
    isplitl [TE3]; · iexact TE3
    iexact RE3
  iintro HO
  iapply (step_exitWait B K c _ rfl) $$ [Hce HO Hae]
  · isplitr; · iexact Hinv
    isplitl [Hce]; · iexact Hce
    isplitl [HO]; · iexact HO
    iexact Hae
  iintro ⟨HO, Hae⟩
  unfold Run
  rw [wp_ret]
  iapply Hk
  isplitl [H0 H1 H2 H3 H4]
  · isplitl [H0]; · iexact H0
    isplitl [H1]; · iexact H1
    isplitl [H2]; · iexact H2
    isplitl [H3]; · iexact H3
    iexact H4
  isplitl [HA0 HA1]
  · iapply (acc_join c fun h => acc B 4 h c)
    isplitl [HA0]; · iexact HA0
    iexact HA1
  isplitl [S0 S1 S2 S3 S4 S5 S6 S7]
  · iapply (land_join c)
    iapply (Entails.of_eq (bigSep_eight (fun t => slotAny (F := F) c t)).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  unfold done
  isplitl [D0 D1 D2 D3 D4 D5 D6 D7]
  · iapply (Entails.of_eq (bigSep_eight (fun j => passed (F := F) c j)).symm)
    isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [Hab]; · iexact Hab
  isplitl [Hae]; · iexact Hae
  iexact HO

end Cert.Cube

end
-- ==== Proof.Region.lean ====
/-
  The kernel's region as a segment of the program: what enters it on each device, what it leaves, and that the body meets
  the pipeline's demands at its one point.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- The summand of each device: what its own heads contribute, from the buffers as the region finds them. -/
def parts : Parts F := fun h c =>
  own (V1 m c main_arg0) (V1 m c main_v9) (V1 m c main_arg2) (V1 m c main_arg3) (V1 m c main_v14) h

/-- What device `c` ends with in its result. -/
def result (c : Dev nD) : FVec F S2x128x512 .f32 := joined fun h => acc (parts m) 4 h c

/-- The buffers of device `c` after the region: the result written, the rest as before. -/
def Vend (c : Dev nD) : Valuation τ sig (Elt F) := Function.update (V1 m c) main_v15 (result m c)

theorem Vend_result (c : Dev nD) : Vend m c main_v15 = result m c := Function.update_self ..
theorem Vend_of (c : Dev nD) (r : Ref sig .tc) (h : r ≠ main_v15) : Vend m c r = V1 m c r :=
  Function.update_of_ne (StableHlo.devRef_ne_of_ne h) ..

/-! ## The protocol's share at the region's door -/

/-- The seventeen inner semaphores: the closing meeting's, eight for sending, eight for receiving. -/
def sendEmb : Fin 8 ↪ Fin 17 := ⟨ixSend, by decide⟩
@[inherit_doc sendEmb] def recvEmb : Fin 8 ↪ Fin 17 := ⟨ixRecv, by decide⟩
@[inherit_doc sendEmb] theorem inner_univ :
    (Finset.univ : Finset (Fin 17)) = {0} ∪ (Finset.univ.map sendEmb ∪ Finset.univ.map recvEmb) := by decide

/-- A family over a device's seventeen inner semaphores, by their use. -/
theorem bigSep_inner (Φ : Fin 17 → sProp 𝕄) :
    bigSep Finset.univ Φ = iprop(Φ 0 ∗ (bigSep Finset.univ fun j : Fin 8 => Φ (ixSend j)) ∗ bigSep Finset.univ fun j : Fin 8 => Φ (ixRecv j)) := by
  rw [inner_univ, Idealize.SL.BI.bigSep_union (by decide), Idealize.SL.BI.bigSep_union (by decide), bigSep_singleton,
    Idealize.SL.BI.bigSep_map, Idealize.SL.BI.bigSep_map]
  rfl

/-- Beside the invariants, what the launch deals device `c`: its place at the barrier, the right to open its inner
    counters, the tokens of all it pays, and the credit of all it waits for. -/
def dealt (c : Dev nD) : sProp 𝕄 :=
  iprop(atPos ER (barCell c) 0 ∅ 0 ∗ (bigSep Finset.univ fun i : Fin 17 => openTok ER (scCell c i))
    ∗ (bigSep Finset.univ fun k : Fin 4 => iprop(dutyTok ER (barCell (par k c)) 0 k ∗ reached ER (barCell (par k c)) 0
        ∗ dutyTok ER (exitCell (par k c)) 0 k))
    ∗ (bigSep Finset.univ fun j : Fin 8 => iprop(cred (tallyAt (recvCell c j) () N) ∗ dutyTok ER (sendCell c j) 0 0
        ∗ dutyTok ER (recvCell (par (dim j) c) j) 0 0))
    ∗ cred (tallyAt (barCell c) () 4) ∗ cred (tallyAt (exitCell c) () 4))

/-- The protocol's share of what the body starts from, less what the device owes. -/
def armed (c : Dev nD) : sProp 𝕄 :=
  iprop((bigSep Finset.univ fun j : Fin 8 => ready (F := F) c j)
    ∗ (bigSep Finset.univ fun j : Fin 8 => reached ER (recvCell c j) 0) ∗ reached ER (exitCell c) 0
    ∗ (bigSep Finset.univ fun k : Fin 4 => iprop(dutyTok ER (barCell (par k c)) 0 k ∗ reached ER (barCell (par k c)) 0
        ∗ dutyTok ER (exitCell (par k c)) 0 k))
    ∗ atPos ER (barCell c) 0 ∅ 0 ∗ atPos ER (exitCell c) 0 ∅ 0 ∗ cred (tallyAt (barCell c) () 4) ∗ cred (tallyAt (exitCell c) () 4))

/-- Armed and owing, a device may start. -/
theorem start_of_armed (c : Dev nD) : iprop(armed c ∗ owesSome c (dues c)) ⊢ (start c : sProp 𝕄) := by
  unfold armed start
  iintro ⟨⟨H1, H2, H3, H4, H5, H6, H7, H8⟩, HO⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HO

/-- The inner counters of device `c`, opened: each at its first round, and known to be open. -/
def openedAll (c : Dev nD) : sProp 𝕄 :=
  bigSep Finset.univ fun i : Fin 17 => iprop(atPos ER (scCell c i) 0 ∅ 0 ∗ reached ER (scCell c i) 0)

/-- The opened counters written out by their use. -/
theorem openedAll_eq (c : Dev nD) : (openedAll c : sProp 𝕄)
    = iprop((atPos ER (exitCell c) 0 ∅ 0 ∗ reached ER (exitCell c) 0)
      ∗ (bigSep Finset.univ fun j : Fin 8 => iprop(atPos ER (sendCell c j) 0 ∅ 0 ∗ reached ER (sendCell c j) 0))
      ∗ bigSep Finset.univ fun j : Fin 8 => iprop(atPos ER (recvCell c j) 0 ∅ 0 ∗ reached ER (recvCell c j) 0)) := by
  unfold openedAll
  rw [bigSep_inner]
  simp only [scCell, osem_send, osem_recv]
  rfl

/-- Opening the inner counters arms a device. -/
theorem armed_of_opened (c : Dev nD) :
    iprop(openedAll c ∗ atPos ER (barCell c) 0 ∅ 0
      ∗ (bigSep Finset.univ fun k : Fin 4 => iprop(dutyTok ER (barCell (par k c)) 0 k ∗ reached ER (barCell (par k c)) 0
          ∗ dutyTok ER (exitCell (par k c)) 0 k))
      ∗ (bigSep Finset.univ fun j : Fin 8 => iprop(cred (tallyAt (recvCell c j) () N) ∗ dutyTok ER (sendCell c j) 0 0
          ∗ dutyTok ER (recvCell (par (dim j) c) j) 0 0))
      ∗ cred (tallyAt (barCell c) () 4) ∗ cred (tallyAt (exitCell c) () 4))
    ⊢ (armed c : sProp 𝕄) := by
  rw [openedAll_eq]
  unfold armed ready
  simp only [bigSep_sep']
  iintro ⟨⟨⟨HE, #HrE⟩, ⟨HS, #HrS⟩, ⟨HR, #HrR⟩⟩, Hb, Hk, ⟨Hc, Ht, Hu⟩, Hcb, Hce⟩
  isplitl [HS HR Hc Ht Hu]
  · isplitl [HS]; · iexact HS
    isplitl [HR]; · iexact HR
    isplitr; · iexact HrS
    isplitl [Hc]; · iexact Hc
    isplitl [Ht]; · iexact Ht
    iexact Hu
  isplitr; · iexact HrR
  isplitr; · iexact HrE
  isplitl [Hk]; · iexact Hk
  isplitl [Hb]; · iexact Hb
  isplitl [HE]; · iexact HE
  isplitl [Hcb]; · iexact Hcb
  iexact Hce

variable (B : Parts F) (K : GSem nD τ sig → ℕ)

/-- The invariants of a device's inner counters, taken from all of them. -/
theorem inner_invs (c : Dev nD) : (invAll B K : sProp 𝕄)
    ⊢ bigSep Finset.univ fun i : Fin 17 => cellInv ER (rd B) (K (scCell c i)) (scCell c i) := by
  refine BIBase.Entails.trans (bigSep_of_persistent (Finset.univ : Finset (Fin 17)) (invAll B K)) (bigSep_mono fun i _ => ?_)
  exact bigSep_elim (Φ := fun g => cellInv ER (rd B) (K g) g) (mem_sc c i)

/-- With its counters at zero in hand, a device opens them all. -/
theorem open_inner (c : Dev nD) :
    iprop(invAll B K ∗ (bigSep Finset.univ fun i : Fin 17 => openTok ER (scCell c i)) ∗ Pipeline.ownSems0 osem c)
      ⊢ (|={Set.univ}=> openedAll c : sProp 𝕄) := by
  unfold Pipeline.ownSems0 openedAll
  iintro ⟨#HI, Ho, Hv⟩
  iapply (cells_open ER (rd B) Finset.univ (scCell c) (fun i => K (scCell c i)) (fun _ _ => Set.mem_univ _))
  isplitl [Ho]
  · iapply (Entails.of_eq (bigSep_sep' _ _ _).symm)
    isplitr
    · iapply (inner_invs B K c); iexact HI
    · iexact Ho
  · iexact Hv

/-- Its only round over, a device closes all its counters and has them back at zero. -/
theorem close_all (c : Dev nD) :
    iprop(invAll B K ∗ (bigSep Finset.univ fun j : Fin 8 => passed (F := F) c j) ∗ atPos ER (barCell c) 1 ∅ 0 ∗ atPos ER (exitCell c) 1 ∅ 0)
      ⊢ (|={Set.univ}=> iprop(semVal (barCell c) 0 ∗ Pipeline.ownSems0 osem c) : sProp 𝕄) := by
  have hat : iprop((bigSep Finset.univ fun j : Fin 8 => passed (F := F) c j) ∗ atPos ER (exitCell c) 1 ∅ 0)
      ⊢ (bigSep Finset.univ fun i : Fin 17 => atPos ER (scCell c i) 1 ∅ 0 : sProp 𝕄) := by
    unfold passed
    rw [bigSep_inner]
    simp only [scCell, osem_send, osem_recv, bigSep_sep']
    iintro ⟨⟨HS, HR⟩, HE⟩
    isplitl [HE]; · iexact HE
    isplitl [HS]; · iexact HS
    iexact HR
  iintro ⟨#HI, HP, HB, HE⟩
  imod (cell_close ER (rd B) (Set.mem_univ (K (barCell c))) id (duties_later B (barCell c))) $$ [HB] with Hb
  · isplitr; · iapply (inv_bar B K c); iexact HI
    iexact HB
  imod (cells_close ER (rd B) Finset.univ (scCell c) (fun i => K (scCell c i)) (fun _ _ => Set.mem_univ _) (fun _ _ h => h) (fun _ => 1)
    (fun i _ => duties_later B (scCell c i))) $$ [HP HE] with Hs
  · iapply (Entails.of_eq (bigSep_sep' _ _ _).symm)
    isplitr
    · iapply (inner_invs B K c); iexact HI
    · iapply hat
      isplitl [HP]; · iexact HP
      iexact HE
  imodintro
  unfold Pipeline.ownSems0
  isplitl [Hb]; · iexact Hb
  iexact Hs

end Cert.Cube

end
-- ==== Proof.Record.lean ====
/-
  The kernel's region as a segment of the program: the body meets the pipeline's demands at its one point, and the record
  of what the region takes and leaves.
-/
module

public import proofs.«01_k».proof.Proof.Region

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The scratch buffer of device `c`, at contents not chosen. -/
def scratchAny (c : Dev nD) : sProp 𝕄 :=
  iprop(∃ f : Buf (Elt F) ((c : Thread nD τ).loc cc0_scratch0), ((c : Thread nD τ).loc cc0_scratch0) ↦{fullShare} f)

/-- What the launch hands the region beside the buffers. -/
def Tk (c : Dev nD) : sProp 𝕄 := iprop(∃ K, invAll (parts m) K ∗ dealt c)
/-- The same once the inner counters are open. -/
def Xk (c : Dev nD) : sProp 𝕄 := iprop(∃ K, invAll (parts m) K ∗ levAts L lv ∗ armed c)
/-- What is left of the protocol when the region ends: the barrier's counter at zero. -/
def Yk (c : Dev nD) : sProp 𝕄 := semVal (barCell c) 0

/-- Opening the inner counters at the region's door. -/
theorem open_door (c : Dev nD) : iprop(Tk m c ∗ Pipeline.ownSems0 osem c ∗ levAts L lv) ⊢ (|={Set.univ}=> Xk m c : sProp 𝕄) := by
  unfold Tk Xk dealt
  iintro ⟨⟨%K, #HI, Hb, Ho, Hk, Hj, Hcb, Hce⟩, Hv, #HL⟩
  imod (open_inner (parts m) K c) $$ [Ho Hv] with H
  · isplitr; · iexact HI
    isplitl [Ho] <;> iassumption
  imodintro
  iexists K
  isplitr; · iexact HI
  isplitr; · iexact HL
  iapply (armed_of_opened c)
  isplitl [H]; · iexact H
  isplitl [Hb]; · iexact Hb
  isplitl [Hk]; · iexact Hk
  isplitl [Hj]; · iexact Hj
  isplitl [Hcb] <;> iassumption

/-- The pipeline's data on device `c`: the five operands and the result, what is owed before and after the one point. -/
def dat (c : Dev nD) : Pipeline.Dat τ (Elt F) Unit ℕ UU ℕ cfg0 c where
  A w := V1 m c (Proc.devRef .tc (Pipeline.arrRef spec0 w))
  after w _ := match w with
    | 0 => V1 m c main_arg0
    | 1 => V1 m c main_v9
    | 2 => V1 m c main_arg2
    | 3 => V1 m c main_arg3
    | 4 => V1 m c main_v14
    | 5 => result m c
    | ⟨_ + 6, h⟩ => absurd h (Nat.not_lt.2 (Nat.le_add_left _ _))
  Φ t := if t.val = 0 then iprop(Xk m c ∗ scratchAny c ∗ ∃ r, prngReg c r)
    else iprop(Yk c ∗ Pipeline.ownSems0 osem c ∗ scratchAny c ∗ ∃ r, prngReg c r)
  q _ := fullShare
  owed t := if t.val = 0 then owe (dues c) else 0

section Before
variable (c : Dev nD) (t : Fin cfg0.N)

/-- Operand 0 in its staging buffer is the array it stages. -/
theorem before0 (d) : (dat m c).before 0 t d = V1 m c main_arg0 := by
  rw [Pipeline.Dat.before_fetched _ _ _ (fetch0_0 t)]
  unfold Pipeline.Dat.fetched Pipeline.Dat.blockOf
  funext j
  refine congrArg (V1 m c (Proc.devRef .tc main_arg0)) (funext fun a => Fin.ext ?_)
  exact Pipeline.Window.rect_emb_val_of_index_zero (cfg0.win 0) t a ((by decide +kernel : ∀ t a, (cfg0.win 0).index t a = 0) t a) j

/-- Operand 1 in its staging buffer is the array it stages. -/
theorem before1 (d) : (dat m c).before 1 t d = V1 m c main_v9 := by
  rw [Pipeline.Dat.before_fetched _ _ _ (fetch0_1 t)]
  unfold Pipeline.Dat.fetched Pipeline.Dat.blockOf
  funext j
  refine congrArg (V1 m c (Proc.devRef .tc main_v9)) (funext fun a => Fin.ext ?_)
  exact Pipeline.Window.rect_emb_val_of_index_zero (cfg0.win 1) t a ((by decide +kernel : ∀ t a, (cfg0.win 1).index t a = 0) t a) j

/-- Operand 2 in its staging buffer is the array it stages. -/
theorem before2 (d) : (dat m c).before 2 t d = V1 m c main_arg2 := by
  rw [Pipeline.Dat.before_fetched _ _ _ (fetch0_2 t)]
  unfold Pipeline.Dat.fetched Pipeline.Dat.blockOf
  funext j
  refine congrArg (V1 m c (Proc.devRef .tc main_arg2)) (funext fun a => Fin.ext ?_)
  exact Pipeline.Window.rect_emb_val_of_index_zero (cfg0.win 2) t a ((by decide +kernel : ∀ t a, (cfg0.win 2).index t a = 0) t a) j

/-- Operand 3 in its staging buffer is the array it stages. -/
theorem before3 (d) : (dat m c).before 3 t d = V1 m c main_arg3 := by
  rw [Pipeline.Dat.before_fetched _ _ _ (fetch0_3 t)]
  unfold Pipeline.Dat.fetched Pipeline.Dat.blockOf
  funext j
  refine congrArg (V1 m c (Proc.devRef .tc main_arg3)) (funext fun a => Fin.ext ?_)
  exact Pipeline.Window.rect_emb_val_of_index_zero (cfg0.win 3) t a ((by decide +kernel : ∀ t a, (cfg0.win 3).index t a = 0) t a) j

/-- Operand 4 in its staging buffer is the array it stages. -/
theorem before4 (d) : (dat m c).before 4 t d = V1 m c main_v14 := by
  rw [Pipeline.Dat.before_fetched _ _ _ (fetch0_4 t)]
  unfold Pipeline.Dat.fetched Pipeline.Dat.blockOf
  funext j
  refine congrArg (V1 m c (Proc.devRef .tc main_v14)) (funext fun a => Fin.ext ?_)
  exact Pipeline.Window.rect_emb_val_of_index_zero (cfg0.win 4) t a ((by decide +kernel : ∀ t a, (cfg0.win 4).index t a = 0) t a) j

end Before

/-- The result after the run is what the body left in its staging buffer. -/
theorem arrAt_out (c : Dev nD) : (dat m c).arrAt 5 cfg0.N = result m c := by
  refine Pipeline.Dat.arrAt_eq_of_after_last (dat m c) 5 t0_0 (by decide +kernel) (result m c) fun j => ?_
  rfl

/-- The arrays as the region finds them, and as it leaves them. -/
theorem arrAt_start (c : Dev nD) (w : Fin 6) : (dat m c).arrAt w 0 = V1 m c (Proc.devRef .tc (Pipeline.arrRef spec0 w)) := rfl
@[inherit_doc arrAt_start] theorem arrAt_end (c : Dev nD) : ∀ w : Fin 6,
    (dat m c).arrAt w cfg0.N = Vend m c (Proc.devRef .tc (Pipeline.arrRef spec0 w))
  | 0 => ((dat m c).arrAt_in 0 rfl _).trans (Vend_of m c main_arg0 (by decide)).symm
  | 1 => ((dat m c).arrAt_in 1 rfl _).trans (Vend_of m c main_v9 (by decide)).symm
  | 2 => ((dat m c).arrAt_in 2 rfl _).trans (Vend_of m c main_arg2 (by decide)).symm
  | 3 => ((dat m c).arrAt_in 3 rfl _).trans (Vend_of m c main_arg3 (by decide)).symm
  | 4 => ((dat m c).arrAt_in 4 rfl _).trans (Vend_of m c main_v14 (by decide)).symm
  | 5 => (arrAt_out m c).trans (Vend_result m c).symm
  | ⟨_ + 6, h⟩ => absurd h (Nat.not_lt.2 (Nat.le_add_left _ _))

/-- What is owed before the point, and after it. -/
theorem owed_at (c : Dev nD) (t) : (dat m c).owed t = if t.val = 0 then owe (dues c) else 0 := rfl
@[inherit_doc owed_at] theorem owed_first (c : Dev nD) : (dat m c).owed 0 = owe (dues c) := by
  rw [owed_at]; exact if_pos rfl
@[inherit_doc owed_at] theorem owed_cast (c : Dev nD) : (dat m c).owed (t0_0 : Fin cfg0.N).castSucc = owe (dues c) := by
  rw [owed_at]; exact if_pos rfl
@[inherit_doc owed_at] theorem owed_succ (c : Dev nD) : (dat m c).owed (t0_0 : Fin cfg0.N).succ = owe [] := by
  rw [owed_at]; exact if_neg (Nat.succ_ne_zero _)
@[inherit_doc owed_at] theorem owed_last (c : Dev nD) : (dat m c).owed (Fin.last _) = 0 := by
  rw [owed_at]; exact if_neg Nat.one_ne_zero

/-- The invariant before the point, and after it. -/
theorem inv_at (c : Dev nD) (t) : (dat m c).Φ t = if t.val = 0 then iprop(Xk m c ∗ scratchAny c ∗ ∃ r, prngReg c r)
    else iprop(Yk c ∗ Pipeline.ownSems0 osem c ∗ scratchAny c ∗ ∃ r, prngReg c r) := rfl
@[inherit_doc inv_at] theorem inv_zero (c : Dev nD) (t : Fin (cfg0.N + 1)) (h : t.val = 0) :
    (dat m c).Φ t = iprop(Xk m c ∗ scratchAny c ∗ ∃ r, prngReg c r) := by
  rw [inv_at]; exact if_pos h
@[inherit_doc inv_at] theorem inv_one (c : Dev nD) (t : Fin (cfg0.N + 1)) (h : t.val ≠ 0) :
    (dat m c).Φ t = iprop(Yk c ∗ Pipeline.ownSems0 osem c ∗ scratchAny c ∗ ∃ r, prngReg c r) := by
  rw [inv_at]; exact if_neg h

/-- What is owed at a point, with the waits recorded so far forgotten. -/
theorem owes_of_point (c : Dev nD) (t : Fin (cfg0.N + 1)) (l : List (GSem nD τ sig × ℕ)) (h : (dat m c).owed t = owe l) :
    ((dat m c).owesAt () t : sProp 𝕄) ⊢ owesSome c l := by
  unfold Pipeline.Dat.owesAt Pipeline.owesWithin owesSome
  rw [h]
  iintro ⟨%W, -, HO⟩
  iexists W; iexact HO
/-- … and the converse: any waits recorded will do. -/
theorem point_of_owes (c : Dev nD) (t : Fin (cfg0.N + 1)) (l : List (GSem nD τ sig × ℕ)) (h : (dat m c).owed t = owe l) :
    owesSome c l ⊢ ((dat m c).owesAt () t : sProp 𝕄) := by
  unfold Pipeline.Dat.owesAt Pipeline.owesWithin Pipeline.Dat.bound owesSome
  rw [h]
  iintro ⟨%W, HO⟩
  iexists W
  isplitr; · ipureintro; exact fun _ _ => Or.inl trivial
  iexact HO

/-- The staging buffers as the body finds them. -/
theorem staged_in (c : Dev nD) :
    (bigSep Finset.univ fun w : Fin 6 => iprop(∃ d, owns (c : Thread nD τ) ((cfg0.win w).stage (cfg0.slots t0_0 w)) fullShare ((dat m c).before w t0_0 d)))
      ⊢ (iprop(operands c (V1 m c main_arg0) (V1 m c main_v9) (V1 m c main_arg2) (V1 m c main_arg3) (V1 m c main_v14)
        ∗ ∃ f : Buf (Elt F) ((c : Thread nD τ).loc cc0_stg5_0), ((c : Thread nD τ).loc cc0_stg5_0) ↦{fullShare} f) : sProp 𝕄) := by
  rw [bigSep_W0]
  unfold operands
  iintro ⟨⟨%d0, H0⟩, ⟨%d1, H1⟩, ⟨%d2, H2⟩, ⟨%d3, H3⟩, ⟨%d4, H4⟩, ⟨%d5, H5⟩⟩
  isplitr [H5]
  · isplitl [H0]
    · iapply (show owns (c : Thread nD τ) ((cfg0.win 0).stage (cfg0.slots t0_0 0)) fullShare ((dat m c).before 0 t0_0 d0) ⊢ (_ : sProp 𝕄) from
        Entails.of_eq ((congrArg (owns (c : Thread nD τ) (Memref.whole cc0_stg0_0) fullShare) (before0 m c t0_0 d0)).trans (owns_whole (c : Thread nD τ) cc0_stg0_0 fullShare _))) $$ H0
    isplitl [H1]
    · iapply (show owns (c : Thread nD τ) ((cfg0.win 1).stage (cfg0.slots t0_0 1)) fullShare ((dat m c).before 1 t0_0 d1) ⊢ (_ : sProp 𝕄) from
        Entails.of_eq ((congrArg (owns (c : Thread nD τ) (Memref.whole cc0_stg1_0) fullShare) (before1 m c t0_0 d1)).trans (owns_whole (c : Thread nD τ) cc0_stg1_0 fullShare _))) $$ H1
    isplitl [H2]
    · iapply (show owns (c : Thread nD τ) ((cfg0.win 2).stage (cfg0.slots t0_0 2)) fullShare ((dat m c).before 2 t0_0 d2) ⊢ (_ : sProp 𝕄) from
        Entails.of_eq ((congrArg (owns (c : Thread nD τ) (Memref.whole cc0_stg2_0) fullShare) (before2 m c t0_0 d2)).trans (owns_whole (c : Thread nD τ) cc0_stg2_0 fullShare _))) $$ H2
    isplitl [H3]
    · iapply (show owns (c : Thread nD τ) ((cfg0.win 3).stage (cfg0.slots t0_0 3)) fullShare ((dat m c).before 3 t0_0 d3) ⊢ (_ : sProp 𝕄) from
        Entails.of_eq ((congrArg (owns (c : Thread nD τ) (Memref.whole cc0_stg3_0) fullShare) (before3 m c t0_0 d3)).trans (owns_whole (c : Thread nD τ) cc0_stg3_0 fullShare _))) $$ H3
    iapply (show owns (c : Thread nD τ) ((cfg0.win 4).stage (cfg0.slots t0_0 4)) fullShare ((dat m c).before 4 t0_0 d4) ⊢ (_ : sProp 𝕄) from
      Entails.of_eq ((congrArg (owns (c : Thread nD τ) (Memref.whole cc0_stg4_0) fullShare) (before4 m c t0_0 d4)).trans (owns_whole (c : Thread nD τ) cc0_stg4_0 fullShare _))) $$ H4
  iexists _
  iapply (show owns (c : Thread nD τ) ((cfg0.win 5).stage (cfg0.slots t0_0 5)) fullShare ((dat m c).before 5 t0_0 d5) ⊢ (_ : sProp 𝕄) from
    Entails.of_eq (owns_whole (c : Thread nD τ) cc0_stg5_0 fullShare ((dat m c).before 5 t0_0 d5))) $$ H5

/-- The staging buffers as the body leaves them. -/
theorem staged_out (c : Dev nD) :
    (iprop(operands c (V1 m c main_arg0) (V1 m c main_v9) (V1 m c main_arg2) (V1 m c main_arg3) (V1 m c main_v14)
        ∗ ((c : Thread nD τ).loc cc0_stg5_0 ↦{fullShare} result m c)) : sProp 𝕄)
      ⊢ bigSep Finset.univ fun w : Fin 6 => owns (c : Thread nD τ) ((cfg0.win w).stage (cfg0.slots t0_0 w)) fullShare ((dat m c).after w t0_0) := by
  rw [bigSep_W0]
  unfold operands
  simp only [← owns_whole]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

/-- The body at its one point, from the invariant before to the invariant after. -/
theorem body_point (c : Dev nD) :
    iprop((dat m c).Φ (t0_0 : Fin cfg0.N).castSucc ∗ (dat m c).owesAt () (t0_0 : Fin cfg0.N).castSucc
      ∗ bigSep Finset.univ fun w : Fin 6 => iprop(∃ d, owns (c : Thread nD τ) ((cfg0.win w).stage (cfg0.slots t0_0 w)) fullShare ((dat m c).before w t0_0 d)))
    ⊢ Run c theBody fun _ => iprop((dat m c).Φ (t0_0 : Fin cfg0.N).succ ∗ (dat m c).owesAt () (t0_0 : Fin cfg0.N).succ
      ∗ bigSep Finset.univ fun w : Fin 6 => owns (c : Thread nD τ) ((cfg0.win w).stage (cfg0.slots t0_0 w)) fullShare ((dat m c).after w t0_0)) := by
  rw [inv_zero m c _ rfl, inv_one m c (t0_0 : Fin cfg0.N).succ (Nat.succ_ne_zero _)]
  iintro ⟨⟨HX, HS, HR⟩, HO, HW⟩
  unfold Xk scratchAny
  icases HX with ⟨%K, #HI, #HL, HA⟩
  icases HS with ⟨%f6, HS⟩
  ihave HO' := (owes_of_point m c _ (dues c) (owed_cast m c)) $$ HO
  ihave HW' := (staged_in m c) $$ HW
  icases HW' with ⟨Hops, ⟨%f5, H5⟩⟩
  iapply (body_run (parts m) K c _ _ _ _ _ (fun _ => rfl) f5 f6) $$ [Hops H5 HS HA HO']
  · isplitr; · iexact HI
    isplitr; · iexact HL
    isplitl [Hops]; · iexact Hops
    isplitl [H5]; · iexact H5
    isplitl [HS]; · iexact HS
    iapply (start_of_armed c)
    isplitl [HA] <;> iassumption
  unfold done
  iintro ⟨Hops, H5, HS, ⟨HP, HB, HE, HO⟩⟩
  imod (close_all (parts m) K c) $$ [HP HB HE] with ⟨Hb, Hs⟩
  · isplitr; · iexact HI
    isplitl [HP]; · iexact HP
    isplitl [HB] <;> iassumption
  imodintro
  unfold Yk
  isplitl [Hb Hs HS HR]
  · isplitl [Hb]; · iexact Hb
    isplitl [Hs]; · iexact Hs
    isplitl [HS]; · iexact HS
    iexact HR
  isplitl [HO]
  · iapply (point_of_owes m c _ [] (owed_succ m c)); iexact HO
  iapply (staged_out m c)
  isplitl [Hops]; · iexact Hops
  iexact H5

/-- The body meets the pipeline's demands at its one point. -/
theorem body_meets (c : Dev nD) : Pipeline.BodyObligation (dat m c) defs₀ 𝒱₀ () Set.univ := fun t => by
  obtain rfl := fin_N0 t
  exact body_point m c

/-! ## The segment -/

/-- The kernel's calls with the tables it is launched with (none), and the data of each. -/
def pdats : (p : Fin 1) → (c : Dev nD) → Pipeline.Dat τ (Elt F) Unit ℕ UU ℕ (Pipeline.pin (pcfgs (F := F)) adm p) c
  | 0 => dat m

/-- The layout facts of the one call. -/
theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of a device that no window stages. -/
def others : Finset (DevRef τ sig) := Pipeline.ucRefs τ sig \ Pipeline.arrRefs spec0

/-- No such buffer is written by the region. -/
theorem others_kept (c : Dev nD) (b : DevRef τ sig) (hb : b ∈ others \ (∅ : Finset (DevRef τ sig))) : Vend m c b = V1 m c b := by
  refine Function.update_of_ne (fun e => ?_) ..
  subst e
  exact absurd hb (by decide)

/-- Everything a device owes lies above the staging semaphores. -/
theorem dues_above (c : Dev nD) : ∀ x ∈ dues c, x.1.1.2 = .tc ∧ 0 < roleLevel (role x.1.2) := by
  intro x hx
  unfold dues at hx
  simp [due3, due2, due1, due0, dueExit] at hx
  rcases hx with h | h | h | h | h | h | h | h | h | h | h | h | h | h | h | h <;> subst h <;>
    exact ⟨rfl, by decide +revert⟩

theorem cut_owed (c : Dev nD) (t : Fin (cfg0.N + 1)) (g : GSem nD τ sig) (i : Unit) (h : 0 < (dat m c).owed t g i) :
    i ∈ L g ∧ (0 : ℕ) < lv g i := by
  rw [owed_at] at h
  split at h
  · obtain ⟨x, hx, e⟩ := owe_pos (dues c) g i h
    obtain ⟨h1, h2⟩ := dues_above c x hx
    subst e
    exact ⟨by unfold L; rw [if_pos h1]; exact Finset.mem_singleton_self _, h2⟩
  · exact absurd h (Nat.lt_irrefl 0)

/-- What enters the invariant, and what comes out of it. -/
theorem enter (c : Dev nD) : iprop(Pipeline.scopedRest spec0 c ∗ (∃ r, prngReg c r) ∗ StableHlo.held (c.tc : Thread nD τ) ∅ (V1 m c) ∗ Xk m c)
    ⊢ ((dat m c).Φ 0 : sProp 𝕄) := by
  rw [inv_zero m c 0 rfl, scopedRest0_eq]
  unfold scratchAny
  iintro ⟨Hs, Hp, -, HX⟩
  isplitl [HX]; · iexact HX
  isplitl [Hs]; · iexact Hs
  iexact Hp
@[inherit_doc enter] theorem leave (c : Dev nD) : ((dat m c).Φ (Fin.last cfg0.N) : sProp 𝕄)
    ⊢ iprop(Pipeline.scopedRest spec0 c ∗ (∃ r, prngReg c r) ∗ StableHlo.held (c.tc : Thread nD τ) ∅ (Vend m c) ∗ Pipeline.ownSems0 osem c ∗ Yk c) := by
  rw [inv_one m c (Fin.last cfg0.N) Nat.one_ne_zero, scopedRest0_eq]
  unfold scratchAny StableHlo.held
  rw [Idealize.SL.BI.bigSep_empty]
  iintro ⟨HY, Ho, Hs, Hp⟩
  isplitl [Hs]; · iexact Hs
  isplitl [Hp]; · iexact Hp
  isplitr; · iempintro
  isplitl [Ho]; · iexact Ho
  iexact HY

set_option backward.isDefEq.respectTransparency.types false in
/-- The region: it takes the launch's share and everything owed, and leaves the barrier's counter at zero, the result
    written and every other buffer as it was. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) layout rfl (fun c => (body_meets m c).loose)
    (fun _ => 0) (fun c => owe (dues c)) (fun c => (owed_first m c).trans (zero_add _).symm) (owed_last m) (fun _ => rfl)
    (fun c w => by show (dat m c).share w = fullShare; unfold Pipeline.Dat.share; split <;> rfl)
    (V1 m) (Vend m) (others_kept m)
    (Tk m) Yk (Xk m) Yk (open_door m) (enter m) (leave m)
    (fun c => by iintro H; imodintro; iexact H)
    (fun _ => 0)
    ⟨fun c w s => by rw [L_tc]; exact Finset.mem_singleton_self _,
     fun c w s => (by decide +kernel : ∀ (w : Fin 6) (s : Fin (spec0 w).nbuf), roleLevel (role (.dma ((spec0 w).sem s))) ≤ 0) w s,
     fun c t g i h => cut_owed m c t g i h⟩
    (fun _ => iprop(emp))
    (fun c w => arrAt_start m c w) (fun c w => arrAt_end m c w)

end Cert.Cube

end
-- ==== Proof.Deal.lean ====
/-
  What the launch deals: the tokens of every payment, each to the device that pays, and to each device the credit of what it
  waits for.
-/
module

public import proofs.«01_k».proof.Proof.Record

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Tokens -/

/-- The payments into one device's cells: four at the opening meeting, four at the closing one, eight sends, eight receipts. -/
abbrev Pay : Type := (Fin 4 ⊕ Fin 4) ⊕ (Fin 8 ⊕ Fin 8)
/-- The semaphore a payment goes to, and the duty it discharges there. -/
def paySem : Pay → SemLoc sig
  | .inl (.inl _) => .reg barrier0
  | .inl (.inr _) => .reg exitS
  | .inr (.inl j) => .dma (sendS j)
  | .inr (.inr j) => .dma (recvS j)
@[inherit_doc paySem] def payDuty : Pay → Fin 4
  | .inl (.inl k) => k
  | .inl (.inr k) => k
  | .inr (.inl _) => 0
  | .inr (.inr _) => 0

theorem pay_inj : Function.Injective (fun p : Pay => (paySem p, payDuty p)) := by decide

/-- The payments of the whole machine. -/
def payEmb : Dev nD × Pay ↪ GSem nD τ sig × ℕ × Fin 4 :=
  ⟨fun x => (((x.1 : Thread nD τ), paySem x.2), 0, payDuty x.2), fun _ _ h =>
    Prod.ext (congrArg (fun t : GSem nD τ sig × ℕ × Fin 4 => t.1.1.1) h)
      (pay_inj (Prod.ext (congrArg (fun t : GSem nD τ sig × ℕ × Fin 4 => t.1.2) h) (congrArg (fun t : GSem nD τ sig × ℕ × Fin 4 => t.2.2) h)))⟩
@[inherit_doc payEmb] def pays : Finset (GSem nD τ sig × ℕ × Fin 4) := Finset.univ.map payEmb

/-- A family over devices and a second index may be dealt out afresh, along a permutation of the devices for each value of
    the second index. -/
theorem redeal {K : Type} [Fintype K] (e : K → Dev nD ≃ Dev nD) (Φ : K → Dev nD → sProp 𝕄) :
    (bigSep Finset.univ fun c : Dev nD => bigSep Finset.univ fun k : K => Φ k c)
      = bigSep Finset.univ fun c : Dev nD => bigSep Finset.univ fun k : K => Φ k (e k c) := by
  rw [Pipeline.bigSep_univ_comm, Pipeline.bigSep_univ_comm (fun (c : Dev nD) (k : K) => Φ k (e k c))]
  exact bigSep_congr fun k _ => Idealize.SL.BI.bigSep_univ_equiv (e k) (Φ k)

/-- The tokens of the payments device `c` makes. -/
def purse (c : Dev nD) : sProp 𝕄 :=
  iprop(((bigSep Finset.univ fun k : Fin 4 => dutyTok ER (barCell (par k c)) 0 k)
      ∗ bigSep Finset.univ fun k : Fin 4 => dutyTok ER (exitCell (par k c)) 0 k)
    ∗ (bigSep Finset.univ fun j : Fin 8 => dutyTok ER (sendCell c j) 0 0)
    ∗ bigSep Finset.univ fun j : Fin 8 => dutyTok ER (recvCell (par (dim j) c) j) 0 0)

/-- All the tokens, each with the device that pays it. -/
theorem purses : bigSep pays (fun x => (dutyTok ER x.1 x.2.1 x.2.2 : sProp 𝕄)) = bigSep Finset.univ fun c : Dev nD => purse c := by
  have own : bigSep pays (fun x => (dutyTok ER x.1 x.2.1 x.2.2 : sProp 𝕄)) = bigSep Finset.univ fun c : Dev nD =>
      iprop(((bigSep Finset.univ fun k : Fin 4 => dutyTok ER (barCell c) 0 k) ∗ bigSep Finset.univ fun k : Fin 4 => dutyTok ER (exitCell c) 0 k)
        ∗ (bigSep Finset.univ fun j : Fin 8 => dutyTok ER (sendCell c j) 0 0) ∗ bigSep Finset.univ fun j : Fin 8 => dutyTok ER (recvCell c j) 0 0) := by
    unfold pays
    rw [Idealize.SL.BI.bigSep_map, Idealize.SL.BI.bigSep_univ_prod]
    refine bigSep_congr fun c _ => ?_
    rw [Idealize.SL.BI.bigSep_univ_sum, Idealize.SL.BI.bigSep_univ_sum, Idealize.SL.BI.bigSep_univ_sum]
    rfl
  rw [own]
  unfold purse
  rw [bigSep_sep', bigSep_sep', bigSep_sep', bigSep_sep', bigSep_sep', bigSep_sep',
    redeal (F := F) flip fun k c => dutyTok ER (barCell c) 0 k, redeal (F := F) flip fun k c => dutyTok ER (exitCell c) 0 k,
    redeal (F := F) (fun j : Fin 8 => flip (dim j)) fun j c => dutyTok ER (recvCell c j) 0 0]
  rfl

/-! ## Credit -/

/-- What is owed to one cell under a list, counted. -/
def owedTo (g : GSem nD τ sig) (l : List (GSem nD τ sig × ℕ)) : ℕ := (l.map fun x => if g = x.1 then x.2 else 0).sum

theorem owe_at (g : GSem nD τ sig) (l : List (GSem nD τ sig × ℕ)) : owe l g () = owedTo g l := by
  induction l with
  | nil => rfl
  | cons x l ih =>
    rw [owe_cons, Pi.add_apply, Finsupp.add_apply, ih, tallyAt_apply, Nat.add_comm]
    unfold owedTo
    rw [List.map_cons, List.sum_cons]
    congr 1
    by_cases h : g = x.1
    · rw [if_pos ⟨h, rfl⟩, if_pos h]
    · rw [if_neg (fun e => h e.1), if_neg h]

/-- All that is owed to a device's cells, over all devices: four signals at each meeting, one block at each receipt. -/
theorem total_bar : ∀ c : Dev nD, (∑ d : Dev nD, owedTo (barCell c) (dues d)) = 4 := by decide +kernel
@[inherit_doc total_bar] theorem total_exit : ∀ c : Dev nD, (∑ d : Dev nD, owedTo (exitCell c) (dues d)) = 4 := by decide +kernel
@[inherit_doc total_bar] theorem total_recv : ∀ (c : Dev nD) (j : Fin 8), (∑ d : Dev nD, owedTo (recvCell c j) (dues d)) = N := by decide +kernel

/-- A cell's launch credit is what is owed to it. -/
theorem credit_at (g : GSem nD τ sig) (n : ℕ) (h : (∑ d : Dev nD, owedTo g (dues d)) = n) :
    tallyOn g (launchCredit (Pipeline.owing fun c : Dev nD => owe (dues c)) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => owe_at g (dues d), h]

/-- The receiving semaphores. -/
def recvLoc : Fin 8 ↪ SemLoc sig := ⟨fun j => .dma (recvS j), by decide⟩

/-- The credit a device is launched with covers its three kinds of waits. -/
theorem credits (c : Dev nD) : (Pipeline.launchCred (fun c => owe (dues c)) c : sProp 𝕄)
    ⊢ iprop(cred (tallyAt (barCell c) () 4) ∗ cred (tallyAt (exitCell c) () 4)
      ∗ bigSep Finset.univ fun j : Fin 8 => cred (tallyAt (recvCell c j) () N)) := by
  unfold Pipeline.launchCred
  refine BIBase.Entails.trans (Idealize.SL.BI.bigSep_subset (t := {SemLoc.reg barrier0} ∪ ({SemLoc.reg exitS} ∪ Finset.univ.map recvLoc)) (Finset.subset_univ _)) ?_
  rw [Idealize.SL.BI.bigSep_union (by decide), Idealize.SL.BI.bigSep_union (by decide), bigSep_singleton, bigSep_singleton,
    Idealize.SL.BI.bigSep_map, credit_at (barCell c) 4 (total_bar c), credit_at (exitCell c) 4 (total_exit c)]
  exact sep_mono_right (sep_mono_right (bigSep_mono fun j _ => Entails.of_eq (congrArg cred (credit_at (recvCell c j) N (total_recv c j)))))

end Cert.Cube

end
-- ==== Proof.Launch.lean ====
/-
  The whole program on all devices: it terminates, returns every counter to zero, keeps the arguments, and leaves in every
  device's result the sum of all the devices' contributions.
-/
module

public import proofs.«01_k».proof.Proof.Deal

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The launch's ghost state: the staging cells' and the protocol's. -/
def u₀ : UU :=
  (initOf (Pipeline.cells cfgs cellOf_inj) (Pipeline.launchToks cfgs cellOf_inj), launchOf barCells scCells pays)

/-- The protocol's launch state, which is given out whole, is kept by device 0 until all devices share it out. -/
def seed (c : Dev nD) : sProp 𝕄 := if c = 0 then BI.own (ER (launchOf barCells scCells pays)) else iprop(emp)

theorem seeds : (bigSep Finset.univ (seed (F := F)) : sProp 𝕄) = BI.own (ER (launchOf barCells scCells pays)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, Idealize.SL.BI.bigSep_emp_const]
  unfold seed
  rw [if_pos rfl]
  exact BI.equiv_iff.mp sep_emp

/-- Beside the buffers: what a device enters the kernel with, and what it leaves it with. -/
def aside : Fin 2 → Dev nD → sProp 𝕄 := fun
  | 0 => fun c => iprop((∃ r, prngReg c r) ∗ Tk m c ∗ owesSome c (dues c))
  | 1 => fun c => iprop(Yk c ∗ owesSome c [])

/-- What every device may consult: the invariants, and that every barrier is open. -/
def common (K : GSem nD τ sig → ℕ) : sProp 𝕄 := iprop(invAll (parts m) K ∗ bigSep barCells fun g => reached ER g 0)

instance common_persistent (K : GSem nD τ sig → ℕ) : BI.Persistent (common m K) := by unfold common; infer_instance

/-- Device `c`'s own share of the launch. -/
def share (c : Dev nD) : sProp 𝕄 :=
  iprop(atPos ER (barCell c) 0 ∅ 0 ∗ (bigSep Finset.univ fun i : Fin 17 => openTok ER (scCell c i)) ∗ purse c)

/-- What a device is launched with that is not the protocol's. -/
def basics (ρ : Dev nD → PrngReg) (c : Dev nD) : sProp 𝕄 :=
  iprop(owes (c : Thread nD τ) (owe (dues c)) ∅ ∗ Pipeline.launchCred (fun c => owe (dues c)) c ∗ prngReg c (ρ c))

/-- The barriers' openness, for the four neighbours of a device. -/
theorem open_near (K : GSem nD τ sig → ℕ) (c : Dev nD) : (common m K : sProp 𝕄) ⊢ bigSep Finset.univ fun k : Fin 4 => reached ER (barCell (par k c)) 0 := by
  refine BIBase.Entails.trans (bigSep_of_persistent (Finset.univ : Finset (Fin 4)) (common m K)) (bigSep_mono fun k _ => ?_)
  unfold common
  refine (show iprop(invAll (parts m) K ∗ bigSep barCells fun g => reached ER g 0) ⊢ (reached ER (barCell (par k c)) 0 : sProp 𝕄) from ?_)
  iintro ⟨-, H⟩
  iapply (show (bigSep barCells fun g => reached ER g 0) ⊢ (reached ER (barCell (par k c)) 0 : sProp 𝕄) from
    bigSep_elim (Φ := fun g => reached ER g 0) (Finset.mem_map_of_mem barEmb (Finset.mem_univ (par k c))))
  iexact H

/-- Each device's shares make up what it enters the kernel with. -/
theorem aside_intro (ρ : Dev nD → PrngReg) (K : GSem nD τ sig → ℕ) (c : Dev nD) :
    iprop(common m K ∗ (share c ∗ basics ρ c)) ⊢ (aside m 0 c : sProp 𝕄) := by
  unfold share basics
  iintro ⟨#HC, ⟨Hat, Hop, Hp⟩, HO, Hcr, Hr⟩
  ihave Hc := (credits (F := F) c) $$ Hcr
  icases Hc with ⟨Hcb, Hce, Hcj⟩
  ihave Hn := (open_near m K c) $$ HC
  unfold purse
  icases Hp with ⟨⟨Hpb, Hpe⟩, Hps, Hpr⟩
  unfold aside Tk dealt owesSome
  isplitl [Hr]; · iexists _; iexact Hr
  isplitr [HO]
  · iexists K
    isplitr
    · unfold common; icases HC with ⟨HI, -⟩; iexact HI
    isplitl [Hat]; · iexact Hat
    isplitl [Hop]; · iexact Hop
    isplitl [Hpb Hpe Hn]
    · rw [bigSep_sep', bigSep_sep']
      isplitl [Hpb]; · iexact Hpb
      isplitl [Hn]; · iexact Hn
      iexact Hpe
    isplitl [Hcj Hps Hpr]
    · rw [bigSep_sep', bigSep_sep']
      isplitl [Hcj]; · iexact Hcj
      isplitl [Hps]; · iexact Hps
      iexact Hpr
    isplitl [Hcb]; · iexact Hcb
    iexact Hce
  iexists _; iexact HO

/-- The one semaphore that outlives the kernel is the barrier's. -/
theorem lasting (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

/-- The launch: every device comes to what it enters the kernel with. -/
theorem launch (ρ : Dev nD → PrngReg) :
    iprop((bigSep Finset.univ fun c : Dev nD => iprop(unscopedSems0 c ∗ owes (c : Thread nD τ) (owe (dues c)) ∅
        ∗ Pipeline.launchCred (fun c => owe (dues c)) c ∗ prngReg c (ρ c) ∗ seed c)) ∗ levAts L lv)
      ⊢ (|={Set.univ}=> bigSep Finset.univ (aside m 0) : sProp 𝕄) := by
  have hsort : (bigSep Finset.univ fun c : Dev nD => iprop(unscopedSems0 c ∗ owes (c : Thread nD τ) (owe (dues c)) ∅
        ∗ Pipeline.launchCred (fun c => owe (dues c)) c ∗ prngReg c (ρ c) ∗ seed c))
      ⊢ (iprop((bigSep Finset.univ fun c : Dev nD => semVal (barCell c) 0) ∗ (bigSep Finset.univ fun c : Dev nD => seed c)
        ∗ bigSep Finset.univ fun c : Dev nD => basics ρ c) : sProp 𝕄) := by
    rw [← bigSep_sep', ← bigSep_sep']
    refine bigSep_mono fun c _ => ?_
    rw [lasting]
    unfold basics
    refine (show iprop(semVal (barCell c) 0 ∗ owes (c : Thread nD τ) (owe (dues c)) ∅ ∗ Pipeline.launchCred (fun c => owe (dues c)) c
      ∗ prngReg c (ρ c) ∗ seed c) ⊢ (_ : sProp 𝕄) from ?_)
    iintro ⟨Hb, HO, Hc, Hp, Hs⟩
    isplitl [Hb]; · iexact Hb
    isplitl [Hs]; · iexact Hs
    isplitl [HO]; · iexact HO
    isplitl [Hc] <;> iassumption
  have hbar (Φ : GSem nD τ sig → sProp 𝕄) : bigSep barCells Φ = bigSep Finset.univ fun c : Dev nD => Φ (barCell c) :=
    Idealize.SL.BI.bigSep_map (s := Finset.univ) barEmb
  have hsc (Φ : GSem nD τ sig → sProp 𝕄) : bigSep scCells Φ = bigSep Finset.univ fun c : Dev nD => bigSep Finset.univ fun i : Fin 17 => Φ (scCell c i) := by
    unfold scCells
    rw [Idealize.SL.BI.bigSep_map, Idealize.SL.BI.bigSep_univ_prod]
    rfl
  iintro ⟨H, -⟩
  ihave H' := hsort $$ H
  icases H' with ⟨Hv, Hs, Hb⟩
  imod (fund_launch ER (rd (parts m)) disjoint_cells (fun g _ h => h) pays) $$ [Hv Hs] with ⟨%K, -, #Hinv, #Hr, Hat, Hop, Htok⟩
  · isplitl [Hv]
    · iapply (Entails.of_eq (hbar fun g => semVal g 0).symm); iexact Hv
    · iapply (Entails.of_eq (seeds (F := F))); iexact Hs
  imodintro
  iapply (bigSep_with_persistent (R := common m K) (Φ := fun c => iprop(share c ∗ basics ρ c)) fun c _ => aside_intro m ρ K c)
  isplitr
  · unfold common invAll
    isplitr; · iexact Hinv
    iexact Hr
  iapply (Entails.of_eq (bigSep_sep' _ _ _).symm)
  isplitr [Hb]
  · unfold share
    iapply (Entails.of_eq (bigSep_sep' _ _ _).symm)
    isplitl [Hat]; · iapply (Entails.of_eq (hbar fun g => atPos ER g 0 ∅ 0)); iexact Hat
    iapply (Entails.of_eq (bigSep_sep' _ _ _).symm)
    isplitl [Hop]; · iapply (Entails.of_eq (hsc fun g => openTok ER g)); iexact Hop
    iapply (Entails.of_eq (purses (F := F))); iexact Htok
  iexact Hb

/-! ## The program as segments -/

theorem arrays_sub : Pipeline.arrRefs (τ := τ) spec0 ⊆ Pipeline.ucRefs τ sig :=
  Pipeline.arrRefs_sub_ucRefs (τ := τ) spec0 (by decide)

/-- The stretch before the kernel leads into it. -/
theorem into (c : Dev nD) : iprop(StableHlo.held (c : Thread nD τ) (Pipeline.ucRefs τ sig) (V1 m c) ∗ aside m 0 c) ⊢ ((region m).pre c : sProp 𝕄) := by
  refine BIBase.Entails.trans ?_ (show iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + owe (dues c)) Wd) ⊢ _ from .rfl)
  rw [StableHlo.held_sub_split (c : Thread nD τ) arrays_sub (V1 m c), zero_add]
  unfold aside others owesSome
  iintro ⟨⟨Ha, Ho⟩, Hr, HT, HO⟩
  isplitl [Ha]; · iexact Ha
  isplitl [Hr]; · iexact Hr
  isplitl [Ho]
  · isplitl [Ho]; · iexact Ho
    iempintro
  isplitl [HT]; · iexact HT
  iexact HO

/-- What the kernel leaves is all that is asked at the end. -/
theorem outof (c : Dev nD) : ((region m).post c : sProp 𝕄) ⊢ iprop(StableHlo.held (c : Thread nD τ) (Pipeline.ucRefs τ sig) (Vend m c) ∗ aside m 1 c) := by
  refine BIBase.Entails.trans (show _ ⊢ iprop(StableHlo.held (c.tc : Thread nD τ) (Pipeline.arrRefs (τ := τ) spec0) (Vend m c) ∗ (∃ r, prngReg c r)
    ∗ (StableHlo.held (c.tc : Thread nD τ) others (Vend m c) ∗ emp) ∗ Yk c ∗ ∃ Wd, owes (c : Thread nD τ) (0 : CellTallies nD τ sig Unit) Wd) from .rfl) ?_
  rw [StableHlo.held_sub_split (c : Thread nD τ) arrays_sub (Vend m c)]
  unfold aside others owesSome
  rw [owe_nil]
  iintro ⟨Ha, -, ⟨Ho, -⟩, HY, HO⟩
  isplitl [Ha Ho]
  · isplitl [Ha] <;> iassumption
  isplitl [HY]; · iexact HY
  iexact HO

/-- Every buffer the run ends with, by name. -/
theorem end_of (c : Dev nD) (s : MemSt nD τ sig (Elt F)) (h : ∀ b ∈ Pipeline.ucRefs τ sig, s.mem ((c : Thread nD τ).1, b) = Vend m c b)
    (r : Ref sig .tc) (hr : r.isScoped = false) : s.mem ((c.tc : Thread nD τ).loc r) = Vend m c r :=
  h (Proc.devRef .tc r) (Finset.mem_filter.mpr ⟨StableHlo.devRef_mem_tcRefs r, by rw [Bool.not_eq_true]; exact hr⟩)

/-- An argument is what it was at launch. -/
theorem end_arg (c : Dev nD) (r : Ref sig .tc) (h : r ≠ main_v15) (h' : r ∉ hostOps0_W) : Vend m c r = m ((c.tc : Thread nD τ).loc r) :=
  (Vend_of m c r h).trans (V1_of m c r h')

theorem lasting_is (sm : SemLoc sig) (h : sm.isScoped .tc = false) : sm = .reg barrier0 := by revert sm; decide

set_option backward.isDefEq.respectTransparency.types false in
/-- The run: from any memory with the counters at zero every weakly fair execution of the program on the sixteen devices
    terminates; every argument is as it was, every device's result is the sum built along the cube, every counter is zero. -/
theorem run_main (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ (∀ c : Dev nD, r.2.mem ((c.tc : Thread nD τ).loc main_v15) = result m c) ∧ r.2.sem = fun _ => 0) := by
  refine Pipeline.θ_run_regions_kit_dev_sems (pcfgs (F := F)) adm (pdats m) () cellOf_inj EP defs₀ 𝒱₀ L lv m ρ main
    (Gen.segs m 𝒱₀ L lv (aside m) () (pdats m) (region m))
    (fun c Q => by
      rewrite [main_chain c, Pipeline.Seg.run_eq_chain,
        show (Gen.segs m 𝒱₀ L lv (aside m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (fun c => owe (dues c)) L_of_ne seed u₀ ?_
    (T₀ := fun c => iprop(StableHlo.held (c : Thread nD τ) (Pipeline.ucRefs τ sig) (V0 m c) ∗ aside m 0 c))
    (Tₙ := fun c => iprop(StableHlo.held (c : Thread nD τ) (Pipeline.ucRefs τ sig) (Vend m c) ∗ semVal (barCell c) 0))
    (hch := fun c => ⟨.rfl, into m c, (outof m c).trans ?_⟩)
    (hinit := ?_) (QY := fun c s => (∀ b ∈ Pipeline.ucRefs τ sig, s.mem ((c : Thread nD τ).1, b) = Vend m c b) ∧ s.sem (barCell c) = 0)
    (hfin := fun c s' => ?_) (hQ := fun s h hs => ?_)
  · unfold u₀
    iintro Hu
    ihave H := (ownU_pair _ _) $$ Hu
    icases H with ⟨HP, HX⟩
    imodintro
    isplitl [HP]; · iexact HP
    rw [seeds]; iexact HX
  · unfold aside Yk owesSome
    rw [owe_nil]
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owe (dues c)) ∅ ∗ Pipeline.launchCred (fun c => owe (dues c)) c ∗ prngReg c (ρ c) ∗ seed c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owe (dues c)) ∅
              ∗ Pipeline.launchCred (fun c => owe (dues c)) c ∗ prngReg c (ρ c) ∗ seed c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    icombine HSI Hb gives %hb
    imodintro
    isplitr
    · ipureintro
      exact ⟨h, by simpa using hb⟩
    iexact HSI
  · refine ⟨fun c => ?_, fun c => ?_, ?_⟩
    · exact ⟨(end_of m c s (h c).1 main_arg0 rfl).trans (end_arg m c main_arg0 (by decide) (by decide)),
        (end_of m c s (h c).1 main_arg1 rfl).trans (end_arg m c main_arg1 (by decide) (by decide)),
        (end_of m c s (h c).1 main_arg2 rfl).trans (end_arg m c main_arg2 (by decide) (by decide)),
        (end_of m c s (h c).1 main_arg3 rfl).trans (end_arg m c main_arg3 (by decide) (by decide)),
        (end_of m c s (h c).1 main_arg4 rfl).trans (end_arg m c main_arg4 (by decide) (by decide))⟩
    · exact (end_of m c s (h c).1 main_v15 rfl).trans (Vend_result m c)
    · exact sem_eq_zero hs fun c sm hsm => by
        obtain rfl := lasting_is sm hsm
        exact (h c).2

end Cert.Cube

end
-- ==== Proof.Frames.lean ====
/-
  The frames: both printings of the kernel terminate, keep their arguments and return every counter to zero.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The frame at any reading of floats. -/
theorem frame_at {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run Cert.KernelIdeal.defs _ _).mono (fun _ h => ⟨h.1, h.2.2⟩) (run_main m ρ)

/-- The idealized kernel's frame. -/
theorem frame_ideal : Cert.quiescent_KernelIdeal := fun m ρ _ =>
  frame_at (F := Ideal) m ρ

/-- The two printings have one table of kernel bodies: its one label runs the same text in both. -/
theorem bodies_same {F : FTy → Type} [FloatOps F] : (Cert.Kernel.defs₀ (F := F)) = Cert.KernelIdeal.defs₀ (F := F) := by
  unfold Cert.Kernel.defs₀ Cert.KernelIdeal.defs₀
  refine congrArg Defs.onTc ?_
  funext l a
  match l, a with
  | 0, (_, _) => rfl
  | ⟨_ + 1, h⟩, _ => exact absurd h (Nat.not_lt.2 (Nat.le_add_left _ _))

/-- The two printings have one table of definitions. -/
theorem defs_same {F : FTy → Type} [FloatOps F] : (Cert.Kernel.defs (F := F)) = Cert.KernelIdeal.defs (F := F) :=
  congrArg (Pipeline.defs (Cert.KernelIdeal.pcfgs (F := F))) bodies_same

/-- The kernel's frame: no operation was rewritten, so its text is the idealized one's, read on bits. -/
theorem frame_bits : Cert.quiescent_Kernel := fun m ρ _ => by
  rw [defs_same]
  exact frame_at (F := Bits) m ρ

/-- The reference declares no semaphore of either kind. -/
theorem no_counter (g : GSem Cert.ReferenceIdeal.nD Cert.ReferenceIdeal.τ Cert.ReferenceIdeal.sig) : False := by
  obtain ⟨_, s⟩ := g
  rcases s with s | s
  · exact (s : Fin 0).elim0
  · exact (s : Fin 0).elim0

/-- The reference's frame: it is host code on one device, which signals nothing. -/
theorem frame_reference : Cert.quiescent_ReferenceIdeal := fun m ρ _ =>
  (θ_run Cert.ReferenceIdeal.defs _ _).mono (fun _ h => ⟨fun c => (h c).2, funext fun g => (no_counter g).elim⟩)
    (Cert.ReferenceIdeal.Value.run (F := Ideal) m ρ)

end Cert.Cube

end
-- ==== Proof.Attention.lean ====
/-
  The mathematics both programs compute: one attention head over the extended reals, its scaling, and sums over devices.
-/
module

public import Idealize.ShloMosaic.PureOps.Ideal.Laws
public import Idealize.ShloMosaic.Lib.ValueIdxCore
public import Mathlib.Data.EReal.Inv

@[expose] public section

noncomputable section

namespace Cert.Cube

open Idealize.ShloMosaic
open scoped BigOperators

/-- The largest score of a row, from minus infinity. -/
def rowMax (r : Fin 128 → EReal) : EReal :=
  (Finset.univ : Finset (Fin 128)).fold max (FloatOps.ofBits (F := Ideal) .f32 0xFF800000#32) r

/-- The exponential of a score less its row's largest. -/
def lifted (r : Fin 128 → EReal) (j : Fin 128) : EReal := Ideal.exp (r j - rowMax r)

/-- The weight of one position of a row of scores. -/
def weight (r : Fin 128 → EReal) (j : Fin 128) : EReal := Ideal.div (lifted r j) (∑ k, lifted r k)

/-- One head: the values averaged by the weights of a query's scores. -/
def headOut (q k v : Fin 128 → Fin 64 → EReal) (i : Fin 128) (d : Fin 64) : EReal :=
  ∑ j, weight (fun j => ∑ e, q i e * k j e) j * v j d

/-- The factor by which both programs scale their scores. -/
def scale : EReal := Ideal.ofBits .f32 0x3E000000#32

/-- That factor is one eighth. -/
theorem scale_eq : scale = (((1 : ℝ) / 8 : ℝ) : EReal) := by
  unfold scale
  simp [Ideal.ofBits, Ideal.ieee]
  rw [← EReal.coe_mul]
  norm_num

/-- Scaling by a positive real passes through a sum of two extended reals, infinite or not. -/
theorem add_mul_scale (x y : EReal) : (x + y) * scale = x * scale + y * scale := by
  rw [scale_eq]
  exact EReal.right_distrib_of_nonneg_of_ne_top (by exact_mod_cast (by norm_num : (0 : ℝ) ≤ 1 / 8)) (EReal.coe_ne_top _) x y

/-- Scaling passes through a finite sum. -/
theorem sum_mul_scale {ι : Type} (s : Finset ι) (f : ι → EReal) : (∑ e ∈ s, f e) * scale = ∑ e ∈ s, f e * scale := by
  classical
  induction s using Finset.induction_on with
  | empty => simp
  | insert a s ha ih => rw [Finset.sum_insert ha, Finset.sum_insert ha, add_mul_scale, ih]

/-- Scaling the queries scales every score. -/
theorem score_scaled (q k : Fin 64 → EReal) : (∑ e, q e * scale * k e) = (∑ e, q e * k e) * scale := by
  rw [sum_mul_scale]
  exact Finset.sum_congr rfl fun e _ => by rw [mul_assoc, mul_comm scale, ← mul_assoc]

/-- A sum over 4096 columns is a sum over sixteen devices of sums over their 256 columns. -/
theorem sum_columns {M : Type} [AddCommMonoid M] (f : Fin 4096 → M) :
    ∑ p, f p = ∑ c : Fin 16, ∑ p : Fin 256, f ⟨256 * c.val + p.val, by omega⟩ := by
  rw [← Equiv.sum_comp (finProdFinEquiv (m := 16) (n := 256)) f, Fintype.sum_prod_type]
  refine Finset.sum_congr rfl fun c _ => Finset.sum_congr rfl fun p _ => congrArg f (Fin.ext ?_)
  show p.val + 256 * c.val = 256 * c.val + p.val
  exact Nat.add_comm _ _

end Cert.Cube

end
-- ==== Proof.Partials.lean ====
/-
  What one device adds to the sum, index by index: its four heads' outputs times its rows of the output weights.
-/
module

public import proofs.«01_k».proof.Proof.Body
public import proofs.«01_k».proof.Proof.Attention
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 16384

noncomputable section

namespace Cert.Cube

open Idealize.ShloMosaic Idealize.ShloMosaic.TcCoe Idealize.ShloMosaic.ValueIdx
open Cert.KernelIdeal Cert.KernelIdeal.Gen
open scoped BigOperators

section Head

variable {F : FTy → Type} [FloatOps F]

/-- The scores of one head: the queries' columns at `off` times the keys. -/
def scoresVec (off : Fin 2 → ℕ) (hs : S256x256.Slices off S128x64) (Q : FVec F S256x256 .f32) (K : Vec F S1x128x1x64 .bf16) :
    FVec F S128x128 .f32 :=
  matmul dot_S128x64_S128x64_S128x128_1_1_0_0_n_n none (truncf .bf16 (extractStridedSlice S128x64 off Q hs) bitsLt_bf16_f32)
    (shapeCast S128x64 K shapeCasts_S1x128x1x64_S128x64) (constant S128x128 .f32 0x00000000#32)

/-- A column laid along every row. -/
def spread (v : FVec F S128 .f32) : FVec F S128x128 .f32 :=
  broadcastTo S128x128 (shapeCast S128x1 v shapeCasts_S128_S128x1) broadcasts_S128x1_S128x128

/-- The exponentials of one head's scores less their rows' largest. -/
def liftedVec (S : FVec F S128x128 .f32) : FVec F S128x128 .f32 :=
  exp (subf S (spread (multiReduction .maximumf [1] S128 S 0xFF800000#32 reduces_S128x128_S128 (.inl rfl) rfl)))

/-- The weights of one head. -/
def weightsVec (E : FVec F S128x128 .f32) : FVec F S128x128 .f32 :=
  divf E (spread (multiReduction .add [1] S128 E 0x00000000#32 reduces_S128x128_S128 (.inl rfl) rfl))

/-- The output of one head. -/
def headVec (off : Fin 2 → ℕ) (hs : S256x256.Slices off S128x64) (Q : FVec F S256x256 .f32) (K V : Vec F S1x128x1x64 .bf16) :
    FVec F S128x64 .f32 :=
  matmul dot_S128x128_S128x64_S128x64_1_0_0_1_n_n none (truncf .bf16 (weightsVec (liftedVec (scoresVec off hs Q K))) bitsLt_bf16_f32)
    (shapeCast S128x64 V shapeCasts_S1x128x1x64_S128x64) (constant S128x64 .f32 0x00000000#32)

/-- Four heads side by side times the output weights. -/
def mixVec (W : Vec F S256x512 .bf16) (H : Fin 4 → FVec F S128x64 .f32) : FVec F S1x128x512 .f32 :=
  shapeCast S1x128x512
    (matmul dot_S128x256_S256x512_S128x512_1_0_0_1_n_n none
      (truncf .bf16 (concatenate S128x256 1 [⟨S128x64, H 0⟩, ⟨S128x64, H 1⟩, ⟨S128x64, H 2⟩, ⟨S128x64, H 3⟩] concatenates_S128x64_S128x64_S128x64_S128x64_S128x256_d1) bitsLt_bf16_f32)
      (shapeCast S256x512 W shapeCasts_S256x512_S256x512) (constant S128x512 .f32 0x00000000#32))
    shapeCasts_S128x512_S1x128x512

variable (X0 : Vec F S2x128x512 .bf16) (X1 : Vec F S512x256 .bf16) (X2 X3 : Vec F S2x128x4x64 .bf16) (X4 : Vec F S256x512 .bf16)

/-- The keys or values of batch entry `b` and head `h` lie in the array. -/
theorem head_inb : ∀ (b : Fin 2) (h : Fin 4) (a : Fin 4), (![b.val, 0, h.val, 0] : Fin 4 → ℕ) a + S1x128x1x64.size a ≤ S2x128x4x64.size a := by
  decide

/-- The queries of batch entry `b` and head `h` lie in the product. -/
theorem head_slices : ∀ (b : Fin 2) (h : Fin 4), S256x256.Slices ![128 * b.val, 64 * h.val] S128x64 := by
  decide

/-- The output of head `h` of batch entry `b`. -/
def headOn (b : Fin 2) (h : Fin 4) : FVec F S128x64 .f32 :=
  headVec ![128 * b.val, 64 * h.val] (head_slices b h) (k0_pay1 X0 X1) (headOf ![b.val, 0, h.val, 0] (head_inb b h) X2)
    (headOf ![b.val, 0, h.val, 0] (head_inb b h) X3)

/-- Batch entry 0's part is its four heads' outputs times the output weights. -/
theorem partial0_eq : partial0 X0 X1 X2 X3 X4 = mixVec X4 (headOn X0 X1 X2 X3 0) := rfl

/-- Batch entry 1's part likewise. -/
theorem partial1_eq : partial1 X0 X1 X2 X3 X4 = mixVec X4 (headOn X0 X1 X2 X3 1) := rfl

end Head

end Cert.Cube

end
-- ==== Proof.Total.lean ====
/-
  Four exchanges along the four dimensions of the cube add up all sixteen devices.
-/
module

public import proofs.«01_k».proof.Proof.Protocol
public import Idealize.ShloMosaic.Lib.ValueIdx

@[expose] public section

set_option maxRecDepth 16384

noncomputable section

namespace Cert.Cube

open Idealize.ShloMosaic Idealize.ShloMosaic.TcCoe Idealize.ShloMosaic.ValueIdx
open Cert.KernelIdeal Cert.KernelIdeal.Gen
open scoped BigOperators

/-- The devices whose parts half `h` of device `c`'s accumulator holds after `r` rounds, each as often as it was added. -/
def reach : ℕ → Fin 2 → Dev nD → List (Dev nD)
  | 0, _, c => [c]
  | r + 1, h, c => reach r h c ++ reach r h (par (dm r h) c)

/-- After four rounds each of the sixteen devices has been added once. -/
theorem reach_all : ∀ (h : Fin 2) (c : Dev nD), (reach 4 h c).Perm (List.finRange 16) := by decide +kernel

/-- An accumulator after `r` rounds is the sum of the parts of the devices it reached. -/
theorem acc_reach (B : Parts Ideal) (r : ℕ) (h : Fin 2) (c : Dev nD) (y : S128x512.Idx) :
    acc B r h c y = ((reach r h c).map fun e => B h e y).sum := by
  induction r generalizing c with
  | zero => simp [acc, reach]
  | succ r ih => simp only [acc, reach, addf_apply, ih, List.map_append, List.sum_append]

/-- The kernel's result on any device is the sum of the sixteen devices' parts. -/
theorem acc_all (B : Parts Ideal) (h : Fin 2) (c : Dev nD) (y : S128x512.Idx) :
    acc B 4 h c y = ∑ e : Dev nD, (B h e y : EReal) := by
  rw [acc_reach, ((reach_all h c).map _).sum_eq]
  exact (Fin.sum_univ_def _).symm

end Cert.Cube

end
-- ==== Proof.PartValue.lean ====
/-
  The kernel's heads and parts read at an index, at the ideal instance.
-/
module

public import proofs.«01_k».proof.Proof.Partials
public import proofs.«01_k».proof.Proof.Total

@[expose] public section

set_option maxRecDepth 16384

noncomputable section

namespace Cert.Cube

open Idealize.ShloMosaic Idealize.ShloMosaic.TcCoe Idealize.ShloMosaic.ValueIdx
open Cert.KernelIdeal Cert.KernelIdeal.Gen
open scoped BigOperators

/-- The index of a row's `k`-th element. -/
theorem row_lift (i k : Fin 128) : reduces_S128x128_S128.lift (ix1 i) k = ix2 i k := by
  funext a
  match a with
  | ⟨0, _⟩ => rfl
  | ⟨1, _⟩ => rfl

/-- A column laid along every row, read at an index. -/
theorem spread_apply (v : FVec Ideal S128 .f32) (i j : Fin 128) : spread v (ix2 i j) = v (ix1 i) := by
  unfold spread
  rw [broadcastTo_apply _ _ (ix2 i j) (ix2 i (0 : Fin 1)) (by
    intro a
    match a with
    | ⟨0, _⟩ => rfl
    | ⟨1, _⟩ => rfl)]
  exact shapeCast_a_a1_apply v _ i 0

/-- The key or value tile of one head, read at an index. -/
theorem tile_apply (K : Vec Ideal S1x128x1x64 .bf16) (j : Fin 128) (e : Fin 64) :
    shapeCast S128x64 K shapeCasts_S1x128x1x64_S128x64 (ix2 j e) = K (ix4 (0 : Fin 1) j (0 : Fin 1) e) := by
  refine shapeCast_apply K _ _ _ ?_
  rw [Shape.rowMajor_val_four, Shape.rowMajor_val_two]
  show ((0 * 128 + j.val) * 1 + 0) * 64 + e.val = j.val * 64 + e.val
  omega

/-- The scores of one head, read at an index. -/
theorem scoresVec_apply (off : Fin 2 → ℕ) (hs : S256x256.Slices off S128x64) (Q : FVec Ideal S256x256 .f32)
    (K : Vec Ideal S1x128x1x64 .bf16) (i j : Fin 128) (q : Fin 64 → EReal)
    (hq : ∀ e : Fin 64, extractStridedSlice S128x64 off Q hs (ix2 i e) = q e) :
    scoresVec off hs Q K (ix2 i j) = ∑ e : Fin 64, q e * (K (ix4 (0 : Fin 1) j (0 : Fin 1) e) : EReal) := by
  unfold scoresVec
  refine (Ideal.matmul_transposedRhs_apply (M := 128) (K := 64) (N := 128) none _ _ _ i j).trans ?_
  rw [constant_apply]
  refine (congrArg (· + _) Ideal.ofBits_zero_f32).trans ((zero_add _).trans ?_)
  exact Finset.sum_congr rfl fun e _ => congrArg₂ (· * ·) (hq e) (tile_apply K j e)

/-- The exponentials of one head, read at an index. -/
theorem liftedVec_apply (S : FVec Ideal S128x128 .f32) (i j : Fin 128) :
    liftedVec S (ix2 i j) = lifted (fun k => S (ix2 i k)) j := by
  unfold liftedVec
  refine congrArg Ideal.exp (congrArg (S (ix2 i j) - ·) ((spread_apply _ i j).trans ?_))
  refine (Ideal.multiReduction_maximumf_single (a := (1 : Fin S128x128.rank)) S _ reduces_S128x128_S128 _ _ (ix1 i)).trans ?_
  have h : S ∘ reduces_S128x128_S128.lift (ix1 i) = fun k : Fin 128 => S (ix2 i k) := funext fun k => congrArg S (row_lift i k)
  rw [h]
  rfl

/-- The weights of one head, read at an index. -/
theorem weightsVec_apply (S : FVec Ideal S128x128 .f32) (i j : Fin 128) :
    weightsVec (liftedVec S) (ix2 i j) = weight (fun k => S (ix2 i k)) j := by
  unfold weightsVec
  refine congrArg₂ Ideal.div (liftedVec_apply S i j) ((spread_apply _ i j).trans ?_)
  refine (Ideal.multiReduction_add_single (a := (1 : Fin S128x128.rank)) (liftedVec S) _ reduces_S128x128_S128 _ _ (ix1 i)).trans ?_
  refine Finset.sum_congr rfl fun k _ => ?_
  exact (congrArg (liftedVec S) (row_lift i k)).trans (liftedVec_apply S i k)

/-- One head, read at an index. -/
theorem headVec_apply (off : Fin 2 → ℕ) (hs : S256x256.Slices off S128x64) (Q : FVec Ideal S256x256 .f32)
    (K V : Vec Ideal S1x128x1x64 .bf16) (i : Fin 128) (d : Fin 64) (q : Fin 128 → Fin 64 → EReal)
    (hq : ∀ (i : Fin 128) (e : Fin 64), extractStridedSlice S128x64 off Q hs (ix2 i e) = q i e) :
    headVec off hs Q K V (ix2 i d)
      = headOut q (fun j e => K (ix4 (0 : Fin 1) j (0 : Fin 1) e)) (fun j d => V (ix4 (0 : Fin 1) j (0 : Fin 1) d)) i d := by
  unfold headVec
  refine (Ideal.matmul_plain_apply (M := 128) (K := 128) (N := 64) none _ _ _ i d).trans ?_
  rw [constant_apply]
  refine (congrArg (· + _) Ideal.ofBits_zero_f32).trans ((zero_add _).trans ?_)
  unfold headOut
  refine Finset.sum_congr rfl fun j _ => congrArg₂ (· * ·) ?_ (tile_apply V j d)
  refine (weightsVec_apply (scoresVec off hs Q K) i j).trans ?_
  exact congrArg (fun r => weight r j) (funext fun k => scoresVec_apply off hs Q K i k (q i) (hq i))

/-- Four heads side by side, read at a column: head `p / 64` at `p % 64`. -/
theorem heads_apply (H : Fin 4 → FVec Ideal S128x64 .f32) (i : Fin 128) (p : Fin 256) :
    concatenate S128x256 1 [⟨S128x64, H 0⟩, ⟨S128x64, H 1⟩, ⟨S128x64, H 2⟩, ⟨S128x64, H 3⟩]
        concatenates_S128x64_S128x64_S128x64_S128x64_S128x256_d1 (ix2 i p)
      = H ⟨p.val / 64, by omega⟩ (ix2 i ⟨p.val % 64, by omega⟩) := by
  refine concatenate_ofFn_apply (t := S128x256) (s₁ := S128x64) 1 (N := 4) H concatenates_S128x64_S128x64_S128x64_S128x64_S128x256_d1 rfl 64 rfl
    (ix2 i p) ⟨p.val / 64, by omega⟩ rfl (ix2 i ⟨p.val % 64, by omega⟩) rfl ?_
  intro b hb
  match b with
  | ⟨0, _⟩ => rfl
  | ⟨1, _⟩ => exact absurd rfl hb

/-- Four heads times the output weights, read at an index. -/
theorem mixVec_apply (W : Vec Ideal S256x512 .bf16) (H : Fin 4 → FVec Ideal S128x64 .f32) (u : Fin 1) (i : Fin 128) (n : Fin 512) :
    mixVec W H (ix3 u i n)
      = ∑ p : Fin 256, (H ⟨p.val / 64, by omega⟩ (ix2 i ⟨p.val % 64, by omega⟩) : EReal) * (W (ix2 p n) : EReal) := by
  unfold mixVec
  refine (shapeCast_ab_1ab_apply _ _ u i n).trans ?_
  refine (Ideal.matmul_plain_apply (M := 128) (K := 256) (N := 512) none _ _ _ i n).trans ?_
  rw [constant_apply]
  refine (congrArg (· + _) Ideal.ofBits_zero_f32).trans ((zero_add _).trans ?_)
  refine Finset.sum_congr rfl fun p _ => congrArg₂ (· * ·) (heads_apply H i p) ?_
  rw [shapeCast_self]

/-- The scaled queries, read at an index: row `128 * b + i` is query `i` of batch entry `b`. -/
theorem queries_apply (X0 : Vec Ideal S2x128x512 .bf16) (X1 : Vec Ideal S512x256 .bf16) (b : Fin 2) (i : Fin 128) (e : Fin 256)
    (r : Fin 256) (hr : r.val = 128 * b.val + i.val) :
    k0_pay1 X0 X1 (ix2 r e) = (∑ k : Fin 512, (X0 (ix3 b i k) : EReal) * (X1 (ix2 k e) : EReal)) * scale := by
  unfold k0_pay1
  rw [mulf_apply]
  refine congrArg₂ (· * ·) ?_ rfl
  refine (Ideal.matmul_plain_apply (M := 256) (K := 512) (N := 256) none _ _ _ r e).trans ?_
  rw [constant_apply]
  refine (congrArg (· + _) Ideal.ofBits_zero_f32).trans ((zero_add _).trans ?_)
  refine Finset.sum_congr rfl fun k _ => congrArg₂ (· * ·) ?_ ?_
  · rw [shapeCast_self]
    refine shapeCast_apply X0 _ _ _ ?_
    rw [Shape.rowMajor_val_three, Shape.rowMajor_val_two]
    show (b.val * 128 + i.val) * 512 + k.val = r.val * 512 + k.val
    omega
  · rw [shapeCast_self]

/-- The queries of one head, read at an index. -/
theorem head_queries (X0 : Vec Ideal S2x128x512 .bf16) (X1 : Vec Ideal S512x256 .bf16) (b : Fin 2) (h : Fin 4) (i : Fin 128) (e : Fin 64) :
    extractStridedSlice S128x64 ![128 * b.val, 64 * h.val] (k0_pay1 X0 X1) (head_slices b h) (ix2 i e)
      = (∑ k : Fin 512, (X0 (ix3 b i k) : EReal) * (X1 (ix2 k (⟨64 * h.val + e.val, by omega⟩ : Fin 256)) : EReal)) * scale := by
  refine (extractStridedSlice_apply _ _ _ _ (ix2 (⟨128 * b.val + i.val, by omega⟩ : Fin 256) (⟨64 * h.val + e.val, by omega⟩ : Fin 256)) ?_).trans
    (queries_apply X0 X1 b i _ _ rfl)
  intro a
  match a with
  | ⟨0, _⟩ => rfl
  | ⟨1, _⟩ => rfl

/-- A head's keys or values, read at an index. -/
theorem headOf_apply (b : Fin 2) (h : Fin 4) (X : Vec Ideal S2x128x4x64 .bf16) (j : Fin 128) (e : Fin 64) :
    headOf ![b.val, 0, h.val, 0] (head_inb b h) X (ix4 (0 : Fin 1) j (0 : Fin 1) e) = X (ix4 b j h e) := by
  refine congrArg X (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * e.val = e.val; omega

/-- The scaled queries of head `h` of batch entry `b`, from the hidden states and a device's columns of the query weights. -/
def queriesOf (X0 : Vec Ideal S2x128x512 .bf16) (X1 : Vec Ideal S512x256 .bf16) (b : Fin 2) (h : Fin 4) (i : Fin 128) (e : Fin 64) : EReal :=
  (∑ k : Fin 512, (X0 (ix3 b i k) : EReal) * (X1 (ix2 k (⟨64 * h.val + e.val, by omega⟩ : Fin 256)) : EReal)) * scale

/-- The output of head `h` of batch entry `b`, read at an index. -/
theorem headOn_apply (X0 : Vec Ideal S2x128x512 .bf16) (X1 : Vec Ideal S512x256 .bf16) (X2 X3 : Vec Ideal S2x128x4x64 .bf16)
    (b : Fin 2) (h : Fin 4) (i : Fin 128) (d : Fin 64) :
    headOn X0 X1 X2 X3 b h (ix2 i d)
      = headOut (queriesOf X0 X1 b h) (fun j e => X2 (ix4 b j h e)) (fun j d => X3 (ix4 b j h d)) i d := by
  unfold headOn
  refine (headVec_apply _ _ _ _ _ i d (queriesOf X0 X1 b h) (head_queries X0 X1 b h)).trans ?_
  exact congrArg₂ (fun k v => headOut (queriesOf X0 X1 b h) k v i d) (funext fun j => funext fun e => headOf_apply b h X2 j e)
    (funext fun j => funext fun e => headOf_apply b h X3 j e)

/-- A device's part for batch entry `b`, read at an index. -/
theorem own_apply (X0 : Vec Ideal S2x128x512 .bf16) (X1 : Vec Ideal S512x256 .bf16) (X2 X3 : Vec Ideal S2x128x4x64 .bf16)
    (X4 : Vec Ideal S256x512 .bf16) (b : Fin 2) (i : Fin 128) (n : Fin 512) :
    own X0 X1 X2 X3 X4 b (ix2 i n)
      = ∑ p : Fin 256, headOut (queriesOf X0 X1 b ⟨p.val / 64, by omega⟩) (fun j e => X2 (ix4 b j (⟨p.val / 64, by omega⟩ : Fin 4) e))
          (fun j d => X3 (ix4 b j (⟨p.val / 64, by omega⟩ : Fin 4) d)) i ⟨p.val % 64, by omega⟩ * (X4 (ix2 p n) : EReal) := by
  have key : own X0 X1 X2 X3 X4 b (ix2 i n) = mixVec X4 (headOn X0 X1 X2 X3 b) (ix3 (0 : Fin 1) i n) := by
    match b with
    | ⟨0, _⟩ => exact shapeCast_1ab_ab_apply (partial0 X0 X1 X2 X3 X4) cast_half' i n
    | ⟨1, _⟩ => exact shapeCast_1ab_ab_apply (partial1 X0 X1 X2 X3 X4) cast_half' i n
  rw [key, mixVec_apply]
  exact Finset.sum_congr rfl fun p _ => congrArg (· * (X4 (ix2 p n) : EReal)) (headOn_apply X0 X1 X2 X3 b _ i _)

end Cert.Cube

end
-- ==== Proof.Slices.lean ====
/-
  What the host's slices hand the kernel: device `c`'s 256 columns of the query weights and 256 rows of the output weights.
-/
module

public import proofs.«01_k».proof.Proof.Launch
public import proofs.«01_k».proof.Proof.PartValue
public import Idealize.ShloMosaic.Lib.DynamicIndex
public import Idealize.ShloMosaic.Lib.StableHlo.Run

@[expose] public section

set_option maxRecDepth 16384

noncomputable section

namespace Cert.Cube

open Idealize.ShloMosaic Idealize.ShloMosaic.TcCoe Idealize.ShloMosaic.ValueIdx
open Cert.KernelIdeal Cert.KernelIdeal.Gen
open scoped BigOperators

/-- A device's number as the host computes it, times 256. -/
def startVec (c : Dev nD) : IVec S_ 32 :=
  muli (id (Host.remui (Host.divui (constantI S_ 32 c.word) (constantI S_ 32 1#32)) (constantI S_ 32 16#32))) (constantI S_ 32 256#32)

/-- The start of a device's slices, read signed, is 256 times its number. -/
theorem start_word : ∀ c : Dev nD,
    BitVec.toInt (select (cmpi .slt (startVec c) (constantI S_ 32 0#32)) (addi (startVec c) (constantI S_ 32 4096#32)) (startVec c)
      (Shape.Idx.first h_S_)) = ((256 * c.val : ℕ) : ℤ) := by
  decide +kernel

/-- A device's columns lie in the query weights. -/
theorem columns_fit : ∀ c : Dev nD, S512x4096.Slices ![0, 256 * c.val] S512x256 := by decide

/-- A device's rows lie in the output weights. -/
theorem rows_fit : ∀ c : Dev nD, S4096x512.Slices ![256 * c.val, 0] S256x512 := by decide

variable (m : (ℓ : Loc nD τ sig) → Buf (Elt Ideal) ℓ)

/-- The start the first slice reads. -/
theorem start_columns (c : Dev nD) :
    BitVec.toInt (StableHlo.after ((hostOps0 c).take 14) (V0 m c) main_v8 (Shape.Idx.first h_S_)) = ((256 * c.val : ℕ) : ℤ) := by
  simp only [hostOps0, List.take]
  after_results_simp
  exact start_word c

/-- The start the second slice reads. -/
theorem start_rows (c : Dev nD) :
    BitVec.toInt (StableHlo.after ((hostOps0 c).take 23) (V0 m c) main_v13 (Shape.Idx.first h_S_)) = ((256 * c.val : ℕ) : ℤ) := by
  simp only [hostOps0, List.take]
  after_results_simp
  exact start_word c

/-- The kernel's query weights are the device's columns of the argument. -/
theorem columns_eq (c : Dev nD) :
    V1 m c main_v9 = extractStridedSlice S512x256 ![0, 256 * c.val] (m ((c.tc : Thread nD τ).loc main_arg1)) (columns_fit c) := by
  unfold V1
  simp only [hostOps0, cast_eq]
  after_results_simp
  refine Host.dynamicSlice_eq_extractStridedSlice _ _ _ _ _ (columns_fit c) ?_
  intro k
  match k with
  | ⟨0, _⟩ =>
    after_results_simp
    rfl
  | ⟨1, _⟩ => exact start_columns m c

/-- The kernel's output weights are the device's rows of the argument. -/
theorem rows_eq (c : Dev nD) :
    V1 m c main_v14 = extractStridedSlice S256x512 ![256 * c.val, 0] (m ((c.tc : Thread nD τ).loc main_arg4)) (rows_fit c) := by
  unfold V1
  simp only [hostOps0, cast_eq]
  after_results_simp
  refine Host.dynamicSlice_eq_extractStridedSlice _ _ _ _ _ (rows_fit c) ?_
  intro k
  match k with
  | ⟨0, _⟩ => exact start_rows m c
  | ⟨1, _⟩ =>
    after_results_simp
    rfl

/-- The query weights at a device's column. -/
theorem columns_apply (c : Dev nD) (k : Fin 512) (e : Fin 256) :
    V1 m c main_v9 (ix2 k e) = m ((c.tc : Thread nD τ).loc main_arg1) (ix2 k (⟨256 * c.val + e.val, by have h : c.val < 16 := c.isLt; omega⟩ : Fin 4096)) := by
  rw [columns_eq]
  refine extractStridedSlice_apply _ _ _ _ _ fun a => ?_
  match a with
  | ⟨0, _⟩ => exact (Nat.zero_add _).symm
  | ⟨1, _⟩ => rfl

/-- The output weights at a device's row. -/
theorem rows_apply (c : Dev nD) (p : Fin 256) (n : Fin 512) :
    V1 m c main_v14 (ix2 p n) = m ((c.tc : Thread nD τ).loc main_arg4) (ix2 (⟨256 * c.val + p.val, by have h : c.val < 16 := c.isLt; omega⟩ : Fin 4096) n) := by
  rw [rows_eq]
  refine extractStridedSlice_apply _ _ _ _ _ fun a => ?_
  match a with
  | ⟨0, _⟩ => rfl
  | ⟨1, _⟩ => exact (Nat.zero_add _).symm

end Cert.Cube

end
-- ==== Proof.RefValue.lean ====
/-
  The plain reference read at an index, at the ideal instance.
-/
module

public import proofs.«01_k».proof.Proof.Gen.ReferenceIdeal.Run
public import proofs.«01_k».proof.Proof.Attention
public import Idealize.ShloMosaic.Lib.ValueIdx
public import Idealize.ShloMosaic.Lib.IdealHost
public import Idealize.ShloMosaic.Lib.KernelVsHost
import Idealize.ShloMosaic.Lib.Pointwise
public import Idealize.ShloMosaic.Lib.Pipeline.Value

@[expose] public section

set_option maxRecDepth 16384

noncomputable section

namespace Cert.Cube

open Idealize.ShloMosaic hiding ix1 ix2 ix3 ix4
open Idealize.ShloMosaic.TcCoe Idealize.ShloMosaic.ValueIdx
open Cert.ReferenceIdeal Cert.ReferenceIdeal.Gen
open scoped BigOperators

/-! ## The reference's pieces -/

/-- The reference's queries, cut into heads. -/
def refQueries (X : FVec Ideal S2x128x512 .bf16) (Wq : FVec Ideal S512x4096 .bf16) : FVec Ideal S2x128x64x64 .bf16 :=
  shapeCast S2x128x64x64 (truncf .bf16 (Host.dotGeneral dot_S2x128x512_S512x4096_S2x128x4096_2_0_01_1_n_n none X Wq) bitsLt_bf16_f32)
    shapeCasts_S2x128x4096_S2x128x64x64

/-- The reference's raw scores. -/
def refRaw (Q K : FVec Ideal S2x128x64x64 .bf16) : FVec Ideal S2x64x128x128 .f32 :=
  Host.dotGeneral dot_S2x128x64x64_S2x128x64x64_S2x64x128x128_3_3_1_1_02_02 none Q K

/-- The band the reference attends to. -/
def band : IVec S128x128 1 :=
  cmpi .sle (absi (subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))

/-- The queries that attend to something. -/
def busy : IVec S128 1 := Host.reduce IntOp.ori band (constantI S_ 1 0#1) reducesTo_S128x128_S128_d1 h_S_

/-- The scaled scores, those outside the band replaced. -/
def refScores (R : FVec Ideal S2x64x128x128 .f32) : FVec Ideal S2x64x128x128 .f32 :=
  select (broadcastInDim S2x64x128x128 ![0, 1, 2, 3] bcast_S1x1x128x128_S2x64x128x128_0_1_2_3 (broadcastInDim S1x1x128x128 ![2, 3] bcast_S128x128_S1x1x128x128_2_3 band))
    (mulf (extf .f32 (truncf .bf16 R bitsLt_bf16_f32) bitsLt_bf16_f32) (broadcastInDim S2x64x128x128 ![] bcast_S_S2x64x128x128 (constant S_ .f32 0x3E000000#32)))
    (broadcastInDim S2x64x128x128 ![] bcast_S_S2x64x128x128 (id (constant S_ .f32 0xCE6E6B28#32)))

/-- The exponentials of the scores less their rows' largest. -/
def refLifted (S : FVec Ideal S2x64x128x128 .f32) : FVec Ideal S2x64x128x128 .f32 :=
  Host.exp (subf S (broadcastInDim S2x64x128x128 ![0, 1, 2, 3] bcast_S2x64x128x1_S2x64x128x128_0_1_2_3
    (broadcastInDim S2x64x128x1 ![0, 1, 2] bcast_S2x64x128_S2x64x128x1_0_1_2
      (Host.reduce FloatOps.maximumf S (constant S_ .f32 0xFF800000#32) reducesTo_S2x64x128x128_S2x64x128_d3 h_S_))))

/-- The weights. -/
def refWeights (E : FVec Ideal S2x64x128x128 .f32) : FVec Ideal S2x64x128x128 .f32 :=
  select (broadcastInDim S2x64x128x128 ![0, 1, 2, 3] bcast_S1x1x128x1_S2x64x128x128_0_1_2_3 (broadcastInDim S1x1x128x1 ![2] bcast_S128_S1x1x128x1_2 busy))
    (Host.divf E (broadcastInDim S2x64x128x128 ![0, 1, 2, 3] bcast_S2x64x128x1_S2x64x128x128_0_1_2_3
      (select (broadcastInDim S2x64x128x1 ![0, 1, 2, 3] bcast_S1x1x128x1_S2x64x128x1_0_1_2_3 (broadcastInDim S1x1x128x1 ![2] bcast_S128_S1x1x128x1_2 busy))
        (broadcastInDim S2x64x128x1 ![0, 1, 2] bcast_S2x64x128_S2x64x128x1_0_1_2 (Host.reduceAdd E (constant S_ .f32 0x00000000#32) reducesTo_S2x64x128x128_S2x64x128_d3 h_S_))
        (broadcastInDim S2x64x128x1 ![] bcast_S_S2x64x128x1 (id (constant S_ .f32 0x3F800000#32))))))
    (broadcastInDim S2x64x128x128 ![] bcast_S_S2x64x128x128 (id (constant S_ .f32 0x00000000#32)))

/-- The heads' outputs, laid side by side. -/
def refContext (V : FVec Ideal S2x128x64x64 .bf16) (W : FVec Ideal S2x64x128x128 .f32) : FVec Ideal S2x128x4096 .f32 :=
  shapeCast S2x128x4096 (transpose S2x128x64x64 [0, 3, 1, 2] (Host.dotGeneral dot_S2x128x64x64_S2x64x128x128_S2x64x64x128_1_3_3_2_02_01 none V W)
    transposes_S2x64x64x128_S2x128x64x64_0_3_1_2) shapeCasts_S2x128x64x64_S2x128x4096

/-- The reference's result as its pieces. -/
theorem res_pieces (m : (ℓ : Loc nD τ sig) → Buf (Elt Ideal) ℓ) (c : Dev nD) :
    Cert.ReferenceIdeal.Value.res_out0 m c
      = Host.dotGeneral (φ₁ := .f32) (φ₂ := .bf16) dot_S2x128x4096_S4096x512_S2x128x512_2_0_01_1_n_n none
          (refContext (m ((c.tc : Thread nD τ).loc main_arg3)) (refWeights (refLifted (refScores (refRaw
            (refQueries (m ((c.tc : Thread nD τ).loc main_arg0)) (m ((c.tc : Thread nD τ).loc main_arg1)))
            (m ((c.tc : Thread nD τ).loc main_arg2)))))))
          (m ((c.tc : Thread nD τ).loc main_arg4)) := rfl

/-! ## The four products -/

/-- The product of the hidden states and the query weights, read at an index. -/
theorem project_apply (X : FVec Ideal S2x128x512 .bf16) (W : FVec Ideal S512x4096 .bf16) (b : Fin 2) (i : Fin 128) (p : Fin 4096) :
    Host.dotGeneral dot_S2x128x512_S512x4096_S2x128x4096_2_0_01_1_n_n none X W (ix3 b i p)
      = ∑ k : Fin 512, (X (ix3 b i k) : EReal) * (W (ix2 k p) : EReal) := by
  let D := dot_S2x128x512_S512x4096_S2x128x4096_2_0_01_1_n_n
  refine (Ideal.dotGeneral_apply D none _ X W _).trans ?_
  rw [← Equiv.sum_comp (contrEquiv1 D 512 rfl rfl).symm]
  refine Finset.sum_congr rfl fun k _ => ?_
  have hk := contrEquiv1_symm_val D 512 rfl rfl k
  have el : D.lhsIdx (ix3 b i p) ((contrEquiv1 D 512 rfl rfl).symm k) = ix3 b i k := by
    funext a; apply Fin.ext
    match a with
    | ⟨0, _⟩ => rfl
    | ⟨1, _⟩ => rfl
    | ⟨2, _⟩ => exact hk
  have er : D.rhsIdx (ix3 b i p) ((contrEquiv1 D 512 rfl rfl).symm k) = ix2 k p := by
    funext a; apply Fin.ext
    match a with
    | ⟨0, _⟩ => exact hk
    | ⟨1, _⟩ => rfl
  exact congrArg₂ (fun u v => (X u : EReal) * (W v : EReal)) el er

/-- The product of queries and keys, read at an index. -/
theorem refRaw_apply (Q K : FVec Ideal S2x128x64x64 .bf16) (b : Fin 2) (h : Fin 64) (i j : Fin 128) :
    refRaw Q K (ix4 b h i j) = ∑ e : Fin 64, (Q (ix4 b i h e) : EReal) * (K (ix4 b j h e) : EReal) := by
  let D := dot_S2x128x64x64_S2x128x64x64_S2x64x128x128_3_3_1_1_02_02
  refine (Ideal.dotGeneral_apply D none _ Q K _).trans ?_
  rw [← Equiv.sum_comp (contrEquiv1 D 64 rfl rfl).symm]
  refine Finset.sum_congr rfl fun k _ => ?_
  have hk := contrEquiv1_symm_val D 64 rfl rfl k
  have el : D.lhsIdx (ix4 b h i j) ((contrEquiv1 D 64 rfl rfl).symm k) = ix4 b i h k := by
    funext a; apply Fin.ext
    match a with
    | ⟨0, _⟩ => rfl
    | ⟨1, _⟩ => rfl
    | ⟨2, _⟩ => rfl
    | ⟨3, _⟩ => exact hk
  have er : D.rhsIdx (ix4 b h i j) ((contrEquiv1 D 64 rfl rfl).symm k) = ix4 b j h k := by
    funext a; apply Fin.ext
    match a with
    | ⟨0, _⟩ => rfl
    | ⟨1, _⟩ => rfl
    | ⟨2, _⟩ => rfl
    | ⟨3, _⟩ => exact hk
  exact congrArg₂ (fun u v => (Q u : EReal) * (K v : EReal)) el er

/-- The product of values and weights, read at an index. -/
theorem average_apply (V : FVec Ideal S2x128x64x64 .bf16) (W : FVec Ideal S2x64x128x128 .f32) (b : Fin 2) (h d : Fin 64) (i : Fin 128) :
    Host.dotGeneral dot_S2x128x64x64_S2x64x128x128_S2x64x64x128_1_3_3_2_02_01 none V W (ix4 b h d i)
      = ∑ j : Fin 128, (V (ix4 b j h d) : EReal) * (W (ix4 b h i j) : EReal) := by
  let D := dot_S2x128x64x64_S2x64x128x128_S2x64x64x128_1_3_3_2_02_01
  refine (Ideal.dotGeneral_apply D none _ V W _).trans ?_
  rw [← Equiv.sum_comp (contrEquiv1 D 128 rfl rfl).symm]
  refine Finset.sum_congr rfl fun k _ => ?_
  have hk := contrEquiv1_symm_val D 128 rfl rfl k
  have el : D.lhsIdx (ix4 b h d i) ((contrEquiv1 D 128 rfl rfl).symm k) = ix4 b k h d := by
    funext a; apply Fin.ext
    match a with
    | ⟨0, _⟩ => rfl
    | ⟨1, _⟩ => exact hk
    | ⟨2, _⟩ => rfl
    | ⟨3, _⟩ => rfl
  have er : D.rhsIdx (ix4 b h d i) ((contrEquiv1 D 128 rfl rfl).symm k) = ix4 b h i k := by
    funext a; apply Fin.ext
    match a with
    | ⟨0, _⟩ => rfl
    | ⟨1, _⟩ => rfl
    | ⟨2, _⟩ => rfl
    | ⟨3, _⟩ => exact hk
  exact congrArg₂ (fun u v => (V u : EReal) * (W v : EReal)) el er

/-- The product of the heads' outputs and the output weights, read at an index. -/
theorem mixed_apply (C : FVec Ideal S2x128x4096 .f32) (W : FVec Ideal S4096x512 .bf16) (b : Fin 2) (i : Fin 128) (n : Fin 512) :
    Host.dotGeneral dot_S2x128x4096_S4096x512_S2x128x512_2_0_01_1_n_n none C W (ix3 b i n)
      = ∑ p : Fin 4096, (C (ix3 b i p) : EReal) * (W (ix2 p n) : EReal) := by
  let D := dot_S2x128x4096_S4096x512_S2x128x512_2_0_01_1_n_n
  refine (Ideal.dotGeneral_apply D none _ C W _).trans ?_
  rw [← Equiv.sum_comp (contrEquiv1 D 4096 rfl rfl).symm]
  refine Finset.sum_congr rfl fun k _ => ?_
  have hk := contrEquiv1_symm_val D 4096 rfl rfl k
  have el : D.lhsIdx (ix3 b i n) ((contrEquiv1 D 4096 rfl rfl).symm k) = ix3 b i k := by
    funext a; apply Fin.ext
    match a with
    | ⟨0, _⟩ => rfl
    | ⟨1, _⟩ => rfl
    | ⟨2, _⟩ => exact hk
  have er : D.rhsIdx (ix3 b i n) ((contrEquiv1 D 4096 rfl rfl).symm k) = ix2 k n := by
    funext a; apply Fin.ext
    match a with
    | ⟨0, _⟩ => exact hk
    | ⟨1, _⟩ => rfl
  exact congrArg₂ (fun u v => (C u : EReal) * (W v : EReal)) el er

/-! ## The band holds every pair -/

/-- Two positions of 128 lie at most 128 apart, in the words the reference compares. -/
theorem near : ∀ i j : Fin 128, IntOp.cmpi .sle (IntOp.absi (BitVec.ofNat 32 i.val - BitVec.ofNat 32 j.val)) 128#32 = 1#1 := by
  decide +kernel

/-- Every pair lies in the band. -/
theorem band_all (i j : Fin 128) : band (ix2 i j) = 1#1 := near i j

/-- Folding "or" over a row of ones, from zero, gives one. -/
theorem fold_ones : (Finset.univ : Finset (Fin 128)).fold IntOp.ori (0#1) (fun _ => 1#1) = 1#1 := by
  decide +kernel

/-- Every query attends to something. -/
theorem busy_all (i : Fin 128) : busy (ix1 i) = 1#1 := by
  have h : busy (ix1 i) = (Finset.univ : Finset (Fin 128)).fold IntOp.ori (0#1) (fun k => band (ix2 i k)) := by
    unfold busy
    generalize band = x
    pointwise
    rfl
  rw [h]
  simp only [band_all]
  exact fold_ones

/-- A select where its condition is one. -/
theorem select_of_one {s : Shape} {α : Type} (c : IVec s 1) (x y : s.Idx → α) (j : s.Idx) (h : c j = 1#1) : select c x y j = x j := by
  unfold select
  exact if_pos h

/-! ## The pieces at an index -/

/-- The reference's queries, read at an index. -/
theorem refQueries_apply (X : FVec Ideal S2x128x512 .bf16) (Wq : FVec Ideal S512x4096 .bf16) (b : Fin 2) (i : Fin 128) (h e : Fin 64) :
    refQueries X Wq (ix4 b i h e) = ∑ k : Fin 512, (X (ix3 b i k) : EReal) * (Wq (ix2 k (⟨64 * h.val + e.val, by omega⟩ : Fin 4096)) : EReal) := by
  unfold refQueries
  refine (shapeCast_apply _ _ _ (ix3 b i (⟨64 * h.val + e.val, by omega⟩ : Fin 4096)) ?_).trans (project_apply X Wq b i _)
  rw [Shape.rowMajor_val_three, Shape.rowMajor_val_four]
  show (b.val * 128 + i.val) * 4096 + (64 * h.val + e.val) = ((b.val * 128 + i.val) * 64 + h.val) * 64 + e.val
  omega

/-- The reference's scores, read at an index. -/
theorem refScores_apply (R : FVec Ideal S2x64x128x128 .f32) (b : Fin 2) (h : Fin 64) (i j : Fin 128) :
    refScores R (ix4 b h i j) = (R (ix4 b h i j) : EReal) * scale := by
  unfold refScores
  refine (select_of_one _ _ _ _ ?_).trans rfl
  exact band_all i j

/-- A row value laid along the row, read at an index. -/
theorem refSpread_apply (v : FVec Ideal S2x64x128x1 .f32) (b : Fin 2) (h : Fin 64) (i j : Fin 128) :
    broadcastInDim S2x64x128x128 ![0, 1, 2, 3] bcast_S2x64x128x1_S2x64x128x128_0_1_2_3 v (ix4 b h i j) = v (ix4 b h i (0 : Fin 1)) := by
  refine broadcastInDim_apply _ _ _ _ _ fun a => ?_
  match a with
  | ⟨0, _⟩ => rfl
  | ⟨1, _⟩ => rfl
  | ⟨2, _⟩ => rfl
  | ⟨3, _⟩ => rfl

/-- A row value given a last axis of one, read at an index. -/
theorem refColumn_apply (v : FVec Ideal S2x64x128 .f32) (b : Fin 2) (h : Fin 64) (i : Fin 128) :
    broadcastInDim S2x64x128x1 ![0, 1, 2] bcast_S2x64x128_S2x64x128x1_0_1_2 v (ix4 b h i (0 : Fin 1)) = v (ix3 b h i) := by
  refine broadcastInDim_apply _ _ _ _ _ fun a => ?_
  match a with
  | ⟨0, _⟩ => rfl
  | ⟨1, _⟩ => rfl
  | ⟨2, _⟩ => rfl

/-- The last axis of the scores can be reduced. -/
theorem last_reduces : S2x64x128x128.Reduces [3] S2x64x128 := by decide

/-- The index of a row's `k`-th score. -/
theorem last_lift (b : Fin 2) (h : Fin 64) (i k : Fin 128) : last_reduces.lift (ix3 b h i) k = ix4 b h i k := by
  funext a
  match a with
  | ⟨0, _⟩ => rfl
  | ⟨1, _⟩ => rfl
  | ⟨2, _⟩ => rfl
  | ⟨3, _⟩ => rfl

/-- The reference's exponentials, read at an index. -/
theorem refLifted_apply (S : FVec Ideal S2x64x128x128 .f32) (b : Fin 2) (h : Fin 64) (i j : Fin 128) :
    refLifted S (ix4 b h i j) = lifted (fun k => S (ix4 b h i k)) j := by
  unfold refLifted
  refine congrArg Ideal.exp (congrArg (S (ix4 b h i j) - ·) ((refSpread_apply _ b h i j).trans ((refColumn_apply _ b h i).trans ?_)))
  refine (congrFun (hostReduce_maximumf_eq_multiReduction S 0xFF800000#32 reducesTo_S2x64x128x128_S2x64x128_d3 h_S_ last_reduces (.inl rfl) rfl) (ix3 b h i)).trans ?_
  refine (Ideal.multiReduction_maximumf_single (a := (3 : Fin S2x64x128x128.rank)) S _ last_reduces _ _ (ix3 b h i)).trans ?_
  have e : S ∘ last_reduces.lift (ix3 b h i) = fun k : Fin 128 => S (ix4 b h i k) := funext fun k => congrArg S (last_lift b h i k)
  rw [e]
  rfl

/-- A query's flag laid over its scores, read at an index. -/
theorem flagWide_apply (v : IVec S128 1) (b : Fin 2) (h : Fin 64) (i j : Fin 128) :
    broadcastInDim S2x64x128x128 ![0, 1, 2, 3] bcast_S1x1x128x1_S2x64x128x128_0_1_2_3 (broadcastInDim S1x1x128x1 ![2] bcast_S128_S1x1x128x1_2 v)
      (ix4 b h i j) = v (ix1 i) := by
  refine (broadcastInDim_apply _ _ _ _ (ix4 (0 : Fin 1) (0 : Fin 1) i (0 : Fin 1)) fun a => ?_).trans ?_
  · match a with
    | ⟨0, _⟩ => rfl
    | ⟨1, _⟩ => rfl
    | ⟨2, _⟩ => rfl
    | ⟨3, _⟩ => rfl
  refine broadcastInDim_apply _ _ _ _ (ix1 i) fun a => ?_
  match a with
  | ⟨0, _⟩ => rfl

/-- A query's flag laid over the heads, read at an index. -/
theorem flagColumn_apply (v : IVec S128 1) (b : Fin 2) (h : Fin 64) (i : Fin 128) :
    broadcastInDim S2x64x128x1 ![0, 1, 2, 3] bcast_S1x1x128x1_S2x64x128x1_0_1_2_3 (broadcastInDim S1x1x128x1 ![2] bcast_S128_S1x1x128x1_2 v)
      (ix4 b h i (0 : Fin 1)) = v (ix1 i) := by
  refine (broadcastInDim_apply _ _ _ _ (ix4 (0 : Fin 1) (0 : Fin 1) i (0 : Fin 1)) fun a => ?_).trans ?_
  · match a with
    | ⟨0, _⟩ => rfl
    | ⟨1, _⟩ => rfl
    | ⟨2, _⟩ => rfl
    | ⟨3, _⟩ => rfl
  refine broadcastInDim_apply _ _ _ _ (ix1 i) fun a => ?_
  match a with
  | ⟨0, _⟩ => rfl

/-- The reference's row sums, read at an index. -/
theorem refSum_apply (E : FVec Ideal S2x64x128x128 .f32) (b : Fin 2) (h : Fin 64) (i : Fin 128) :
    Host.reduceAdd E (constant S_ .f32 0x00000000#32) reducesTo_S2x64x128x128_S2x64x128_d3 h_S_ (ix3 b h i) = ∑ k : Fin 128, (E (ix4 b h i k) : EReal) := by
  refine (hostReduceAdd_apply E _ _ _ _).trans ?_
  refine (Ideal.hostReduceAdd_single (a := (3 : Fin S2x64x128x128.rank)) reducesTo_S2x64x128x128_S2x64x128_d3 last_reduces E _ (ix3 b h i)).trans ?_
  rw [constant_apply]
  refine (congrArg (· + _) Ideal.ofBits_zero_f32).trans ((zero_add _).trans ?_)
  exact Finset.sum_congr rfl fun k _ => congrArg E (last_lift b h i k)

/-- The reference's weights, read at an index. -/
theorem refWeights_apply (S : FVec Ideal S2x64x128x128 .f32) (b : Fin 2) (h : Fin 64) (i j : Fin 128) :
    refWeights (refLifted S) (ix4 b h i j) = weight (fun k => S (ix4 b h i k)) j := by
  unfold refWeights
  rw [select_of_one _ _ _ (ix4 b h i j) ((flagWide_apply busy b h i j).trans (busy_all i)), hostDivf_apply, refSpread_apply,
    select_of_one _ _ _ (ix4 b h i (0 : Fin 1)) ((flagColumn_apply busy b h i).trans (busy_all i)), refColumn_apply, refSum_apply,
    refLifted_apply]
  unfold weight
  exact congrArg (Ideal.div _) (Finset.sum_congr rfl fun k _ => refLifted_apply S b h i k)

/-- The reference's heads side by side, read at an index: column `p` is head `p / 64` at `p % 64`. -/
theorem refContext_apply (V : FVec Ideal S2x128x64x64 .bf16) (W : FVec Ideal S2x64x128x128 .f32) (b : Fin 2) (i : Fin 128) (p : Fin 4096)
    (h d : Fin 64) (hp : p.val = 64 * h.val + d.val) :
    refContext V W (ix3 b i p) = ∑ j : Fin 128, (W (ix4 b h i j) : EReal) * (V (ix4 b j h d) : EReal) := by
  unfold refContext
  refine (shapeCast_apply _ _ _ (ix4 b i h d) ?_).trans ?_
  · rw [Shape.rowMajor_val_three, Shape.rowMajor_val_four]
    show ((b.val * 128 + i.val) * 64 + h.val) * 64 + d.val = (b.val * 128 + i.val) * 4096 + p.val
    omega
  refine (transpose_apply _ _ _ _ (ix4 b h d i) fun a => ?_).trans ?_
  · match a with
    | ⟨0, _⟩ => rfl
    | ⟨1, _⟩ => rfl
    | ⟨2, _⟩ => rfl
    | ⟨3, _⟩ => rfl
  refine (average_apply V W b h d i).trans ?_
  exact Finset.sum_congr rfl fun j _ => mul_comm _ _

/-- The reference's queries of head `h`, unscaled. -/
def plainQueries (X : FVec Ideal S2x128x512 .bf16) (Wq : FVec Ideal S512x4096 .bf16) (b : Fin 2) (h : Fin 64) (i : Fin 128) (e : Fin 64) : EReal :=
  ∑ k : Fin 512, (X (ix3 b i k) : EReal) * (Wq (ix2 k (⟨64 * h.val + e.val, by omega⟩ : Fin 4096)) : EReal)

/-- One head of the reference, read at an index, with the scale moved to the queries. -/
theorem refHead_apply (X : FVec Ideal S2x128x512 .bf16) (Wq : FVec Ideal S512x4096 .bf16) (K V : FVec Ideal S2x128x64x64 .bf16)
    (b : Fin 2) (i : Fin 128) (p : Fin 4096) (h d : Fin 64) (hp : p.val = 64 * h.val + d.val) :
    refContext V (refWeights (refLifted (refScores (refRaw (refQueries X Wq) K)))) (ix3 b i p)
      = headOut (fun i e => plainQueries X Wq b h i e * scale) (fun j e => K (ix4 b j h e)) (fun j d => V (ix4 b j h d)) i d := by
  rw [refContext_apply V _ b i p h d hp]
  unfold headOut
  refine Finset.sum_congr rfl fun j _ => congrArg (· * (V (ix4 b j h d) : EReal)) ?_
  refine (refWeights_apply _ b h i j).trans (congrArg (fun r => weight r j) (funext fun k => ?_))
  rw [refScores_apply, refRaw_apply, score_scaled]
  refine congrArg (· * scale) (Finset.sum_congr rfl fun e _ => ?_)
  exact congrArg (· * (K (ix4 b k h e) : EReal)) (refQueries_apply X Wq b i h e)

end Cert.Cube

end
-- ==== Proof.Equation.lean ====
/-
  The kernel's result and the reference's are one sum over the 4096 columns of the heads: a device's share is its 256 of them.
-/
module

public import proofs.«01_k».proof.Defs
public import proofs.«01_k».proof.Proof.Slices
public import proofs.«01_k».proof.Proof.RefValue

@[expose] public section

set_option maxRecDepth 16384

noncomputable section

namespace Cert.Cube

open Idealize.ShloMosaic Idealize.ShloMosaic.TcCoe Idealize.ShloMosaic.ValueIdx
open Idealize.SL.Sem
open Cert.KernelIdeal Cert.KernelIdeal.Gen
open scoped BigOperators

/-- What the claim supposes of a launch: device `c` of the kernel holds the reference's arrays, of keys and values its own four heads. -/
def Agrees (m : (ℓ : Loc nD τ sig) → Buf (Elt Ideal) ℓ)
    (X : Vec Ideal S2x128x512 .bf16) (Wq : Vec Ideal S512x4096 .bf16) (K V : (⟨4, ![2, 128, 64, 64]⟩ : Shape).Idx → Ideal .bf16)
    (Wo : Vec Ideal S4096x512 .bf16) (c : Dev nD) : Prop :=
  m ((c.tc : Thread nD τ).loc main_arg0) = X ∧ m ((c.tc : Thread nD τ).loc main_arg1) = Wq
    ∧ m ((c.tc : Thread nD τ).loc main_arg2) = Layout.block ⟨4, ![2, 128, 4, 64]⟩ ⟨4, ![2, 128, 64, 64]⟩ 2 16 c K
    ∧ m ((c.tc : Thread nD τ).loc main_arg3) = Layout.block ⟨4, ![2, 128, 4, 64]⟩ ⟨4, ![2, 128, 64, 64]⟩ 2 16 c V
    ∧ m ((c.tc : Thread nD τ).loc main_arg4) = Wo

/-- A device's four heads of the keys or values, read at an index: its head `h` is head `4 * c + h` of the whole. -/
theorem heads_block (K : (⟨4, ![2, 128, 64, 64]⟩ : Shape).Idx → Ideal .bf16) (c : Dev nD) (b : Fin 2) (j : Fin 128) (h : Fin 4) (e : Fin 64)
    (H : Fin 64) (hH : H.val = 4 * c.val + h.val) :
    Layout.block ⟨4, ![2, 128, 4, 64]⟩ ⟨4, ![2, 128, 64, 64]⟩ 2 16 c K (by decide) (ix4 b j h e) = K (ix4 b j H e) := by
  rw [Layout.block_apply]
  refine congrArg K (funext fun a => Fin.ext ?_)
  rw [Layout.Tiles.idx_val]
  match a with
  | ⟨0, _⟩ => rfl
  | ⟨1, _⟩ => rfl
  | ⟨2, _⟩ =>
    show c.val * 4 + h.val = H.val
    omega
  | ⟨3, _⟩ => rfl

variable (m : (ℓ : Loc nD τ sig) → Buf (Elt Ideal) ℓ)
variable (X : Vec Ideal S2x128x512 .bf16) (Wq : Vec Ideal S512x4096 .bf16) (K V : (⟨4, ![2, 128, 64, 64]⟩ : Shape).Idx → Ideal .bf16)
  (Wo : Vec Ideal S4096x512 .bf16)

/-- One column of the sum both programs compute: column `P` is head `P / 64` at `P % 64`, times its row of the output weights. -/
def column (b : Fin 2) (i : Fin 128) (n : Fin 512) (P : Fin 4096) : EReal :=
  headOut (fun i e => plainQueries X Wq b (⟨P.val / 64, by omega⟩ : Fin 64) i e * scale) (fun j e => K (ix4 b j (⟨P.val / 64, by omega⟩ : Fin 64) e))
    (fun j d => V (ix4 b j (⟨P.val / 64, by omega⟩ : Fin 64) d)) i ⟨P.val % 64, by omega⟩ * (Wo (ix2 P n) : EReal)

/-- Device `c`'s part is the sum of its 256 columns. -/
theorem parts_apply (c : Dev nD) (hc : Agrees m X Wq K V Wo c) (b : Fin 2) (i : Fin 128) (n : Fin 512) :
    parts m b c (ix2 i n)
      = ∑ p : Fin 256, column X Wq K V Wo b i n ⟨256 * c.val + p.val, by have h : c.val < 16 := c.isLt; omega⟩ := by
  obtain ⟨h0, h1, h2, h3, h4⟩ := hc
  have hlt : c.val < 16 := c.isLt
  unfold parts
  rw [own_apply]
  refine Finset.sum_congr rfl fun p _ => ?_
  unfold column
  have hH : (256 * c.val + p.val) / 64 = 4 * c.val + p.val / 64 := by omega
  have hd : (256 * c.val + p.val) % 64 = p.val % 64 := by omega
  have e0 : V1 m c main_arg0 = X := (V1_of m c main_arg0 (by decide)).trans h0
  have e2 : V1 m c main_arg2 = Layout.block ⟨4, ![2, 128, 4, 64]⟩ ⟨4, ![2, 128, 64, 64]⟩ 2 16 c K := (V1_of m c main_arg2 (by decide)).trans h2
  have e3 : V1 m c main_arg3 = Layout.block ⟨4, ![2, 128, 4, 64]⟩ ⟨4, ![2, 128, 64, 64]⟩ 2 16 c V := (V1_of m c main_arg3 (by decide)).trans h3
  have eo : V1 m c main_v14 (ix2 p n) = Wo (ix2 (⟨256 * c.val + p.val, by omega⟩ : Fin 4096) n) := (rows_apply m c p n).trans (congrFun h4 _)
  have ed : (⟨p.val % 64, by omega⟩ : Fin 64) = ⟨(256 * c.val + p.val) % 64, by omega⟩ := Fin.ext hd.symm
  have ek : (fun (j : Fin 128) (e : Fin 64) => V1 m c main_arg2 (ix4 b j (⟨p.val / 64, by omega⟩ : Fin 4) e))
      = fun j e => K (ix4 b j (⟨(256 * c.val + p.val) / 64, by omega⟩ : Fin 64) e) :=
    funext fun j => funext fun e => (congrFun e2 _).trans (heads_block K c b j _ e _ hH)
  have ev : (fun (j : Fin 128) (e : Fin 64) => V1 m c main_arg3 (ix4 b j (⟨p.val / 64, by omega⟩ : Fin 4) e))
      = fun j e => V (ix4 b j (⟨(256 * c.val + p.val) / 64, by omega⟩ : Fin 64) e) :=
    funext fun j => funext fun e => (congrFun e3 _).trans (heads_block V c b j _ e _ hH)
  have eq : queriesOf (V1 m c main_arg0) (V1 m c main_v9) b ⟨p.val / 64, by omega⟩
      = fun i e => plainQueries X Wq b (⟨(256 * c.val + p.val) / 64, by omega⟩ : Fin 64) i e * scale := by
    funext i e
    unfold queriesOf plainQueries
    refine congrArg (· * scale) (Finset.sum_congr rfl fun k _ => congrArg₂ (fun x y : EReal => x * y) (congrFun e0 _) ?_)
    refine (columns_apply m c k _).trans ((congrFun h1 _).trans (congrArg (fun q : Fin 4096 => Wq (ix2 k q)) (Fin.ext ?_)))
    show 256 * c.val + (64 * (p.val / 64) + e.val) = 64 * ((256 * c.val + p.val) / 64) + e.val
    omega
  refine congrArg₂ (fun x y : EReal => x * y) ?_ eo
  rw [← ed, eq]
  exact congrArg₂ (fun k v => headOut (fun i e => plainQueries X Wq b (⟨(256 * c.val + p.val) / 64, by omega⟩ : Fin 64) i e * scale) k v i
    (⟨p.val % 64, by omega⟩ : Fin 64)) ek ev

/-- The kernel's result on any device is the sum of all 4096 columns. -/
theorem result_apply (hm : ∀ c, Agrees m X Wq K V Wo c) (c : Dev nD) (b : Fin 2) (i : Fin 128) (n : Fin 512) :
    result m c (ix3 b i n) = ∑ P : Fin 4096, column X Wq K V Wo b i n P := by
  show acc (parts m) 4 b c (ix2 i n) = _
  rw [acc_all, sum_columns]
  exact Finset.sum_congr rfl fun e _ => parts_apply m X Wq K V Wo e (hm e) b i n

/-- The reference's result is the sum of all 4096 columns. -/
theorem reference_apply (m' : (ℓ : Loc Cert.ReferenceIdeal.nD Cert.ReferenceIdeal.τ Cert.ReferenceIdeal.sig) → Buf (Elt Ideal) ℓ)
    (c : Dev Cert.ReferenceIdeal.nD) (b : Fin 2) (i : Fin 128) (n : Fin 512) :
    Cert.ReferenceIdeal.Value.res_out0 m' c (ix3 b i n)
      = ∑ P : Fin 4096, column (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) b i n P := by
  rw [res_pieces]
  refine (mixed_apply _ _ b i n).trans (Finset.sum_congr rfl fun P _ => ?_)
  unfold column
  exact congrArg₂ (fun x y : EReal => x * y)
    (refHead_apply _ _ _ _ b i P ⟨P.val / 64, by omega⟩ ⟨P.val % 64, by omega⟩ (Nat.div_add_mod P.val 64).symm) rfl

/-- The kernel computes the reference: every device ends with the reference's whole result. -/
theorem computes : Cert.algebraic_KernelIdeal_ReferenceIdeal := fun m g m' g' _ hm => by
  have hr : ∀ c : Dev nD, result m c = Cert.ReferenceIdeal.Value.res_out0 m' (0 : Dev Cert.ReferenceIdeal.nD) := fun c => by
    funext y
    have hy : y = ix3 (y 0) (y 1) (y 2) := eq_ix3 y
    rw [hy]
    exact (result_apply m _ _ _ _ _ hm c _ _ _).trans (reference_apply m' 0 _ _ _).symm
  refine ⟨Cert.ReferenceIdeal.Value.res_out0 m' (0 : Dev Cert.ReferenceIdeal.nD), ?_, ?_⟩
  · exact (θ_run Cert.KernelIdeal.defs _ _).mono (fun _ h c => ⟨(h.2.1 c).trans (hr c), h.1 c⟩) (run_main (F := Ideal) m g)
  · exact (θ_run Cert.ReferenceIdeal.defs _ _).mono (fun _ h => h 0) (Cert.ReferenceIdeal.Value.run (F := Ideal) m' g')

end Cert.Cube

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim: the three frames, the unchanged operations, and the value. -/
theorem claim : Cert.Claim := ⟨Cert.Kernel.Gen.facts, Cert.KernelIdeal.Gen.facts, Cert.ReferenceIdeal.Gen.facts,
  Cert.Cube.frame_bits, Cert.Cube.frame_ideal, Cert.Cube.frame_reference, trivial, Cert.Cube.computes⟩

end Cert.Proof

end
